-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_routes_finite [hPre_routes_finite : Cert.Pre_routes_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_routes_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).1 = (fun _ => 1#1)
    ∧ (Cert.Pre_routes_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.1 = (fun _ => 1#1)
    ∧ (Cert.Pre_routes_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.1 = (fun _ => 1#1)
    ∧ (Cert.Pre_routes_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.1 = (fun _ => 1#1)
    ∧ (Cert.Pre_routes_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_routes_finite [hPre_routes_finite : Cert.Pre_routes_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_routes_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).1 = (fun _ => 1#1)
    ∧ (Cert.Pre_routes_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.1 = (fun _ => 1#1)
    ∧ (Cert.Pre_routes_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.1 = (fun _ => 1#1)
    ∧ (Cert.Pre_routes_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2.1 = (fun _ => 1#1)
    ∧ (Cert.Pre_routes_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel4Ideal_pre_routes_finite [hKernel4Ideal : Cert.Kernel4Ideal.Facts] [hPre_routes_finite : Cert.Pre_routes_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_routes_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Reference4Ideal_pre_routes_finite [hReference4Ideal : Cert.Reference4Ideal.Facts] [hPre_routes_finite : Cert.Pre_routes_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_routes_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_v19) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v17_0)) (v1 : (c : Dev Cert.Kernel3Ideal.nD) → Buf (Elt Ideal) ((c.tc : Thread Cert.Kernel3Ideal.nD Cert.Kernel3Ideal.τ).loc Cert.Kernel3Ideal.main_v17_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v17_0) = v0 c
          ∧ r.2.mem ((c.tc : Thread Cert.Kernel3Ideal.nD Cert.Kernel3Ideal.τ).loc Cert.Kernel3Ideal.main_v17_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal_pre_routes_finite [hKernel4Ideal : Cert.Kernel4Ideal.Facts] [hReference4Ideal : Cert.Reference4Ideal.Facts] [hPre_routes_finite : Cert.Pre_routes_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_routes_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v17_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v140) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_routes_finite : Cert.Pre_routes_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_routes_finite (hKernel4Ideal := hKernel4Ideal) (hPre_routes_finite := hPre_routes_finite)
    ∧ quiescent_Reference4Ideal (hReference4Ideal := hReference4Ideal)
    ∧ quiescent_Reference4Ideal_pre_routes_finite (hReference4Ideal := hReference4Ideal) (hPre_routes_finite := hPre_routes_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_routes_finite (hKernel4Ideal := hKernel4Ideal) (hReference4Ideal := hReference4Ideal) (hPre_routes_finite := hPre_routes_finite)
-- ==== Pre_routes_finite.lean ====
abbrev S32768x1024 : Shape := ⟨2, ![32768, 1024]⟩
abbrev S32768x512 : Shape := ⟨2, ![32768, 512]⟩
abbrev S32768x2048 : Shape := ⟨2, ![32768, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S_ : Shape := ⟨0, ![]⟩

class Facts : Prop where
  bcast_S_S1x1024 : S_.BroadcastsInDim S1x1024 (![] : Fin 0 → Fin S1x1024.rank)
  bcast_S_S1x1024x4 : S_.BroadcastsInDim S1x1024x4 (![] : Fin 0 → Fin S1x1024x4.rank)
  bcast_S_S1x4 : S_.BroadcastsInDim S1x4 (![] : Fin 0 → Fin S1x4.rank)
  bcast_S_S1x1024x32 : S_.BroadcastsInDim S1x1024x32 (![] : Fin 0 → Fin S1x1024x32.rank)
  bcast_S_S1x32 : S_.BroadcastsInDim S1x32 (![] : Fin 0 → Fin S1x32.rank)

variable [Facts]

def fn {F : FTy → Type} [FloatOps F] (main_arg0 : FVec F S32768x1024 .f32) (main_arg1 : FVec F S32768x512 .f32) (main_arg2 : FVec F S32768x512 .f32) (main_arg3 : FVec F S32768x2048 .f32) (main_arg4 : FVec F S1x512x1024 .f32) (main_arg5 : FVec F S1x512x1024 .f32) (main_arg6 : FVec F S1x1024x1024 .f32) (main_arg7 : FVec F S1x1024 .f32) (main_arg8 : FVec F S1x1024x4 .f32) (main_arg9 : FVec F S1x4 .f32) (main_arg10 : FVec F S1x1024x32 .f32) (main_arg11 : FVec F S1x32 .f32) : IVec S1x1024 1 × IVec S1x1024x4 1 × IVec S1x4 1 × IVec S1x1024x32 1 × IVec S1x32 1 :=
  let main_v0 : FVec F S1x1024 .f32 := Host.absf main_arg7
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x4 .f32 := Host.absf main_arg8
  let main_cst_0 : FVec F S_ .f32 := constant S_ .f32 0x7F800000#32
  let main_v4 : FVec F S1x1024x4 .f32 := broadcastInDim S1x1024x4 ![] bcast_S_S1x1024x4 main_cst_0
  let main_v5 : IVec S1x1024x4 1 := cmpf .olt main_v3 main_v4
  let main_v6 : FVec F S1x4 .f32 := Host.absf main_arg9
  let main_cst_1 : FVec F S_ .f32 := constant S_ .f32 0x7F800000#32
  let main_v7 : FVec F S1x4 .f32 := broadcastInDim S1x4 ![] bcast_S_S1x4 main_cst_1
  let main_v8 : IVec S1x4 1 := cmpf .olt main_v6 main_v7
  let main_v9 : FVec F S1x1024x32 .f32 := Host.absf main_arg10
  let main_cst_2 : FVec F S_ .f32 := constant S_ .f32 0x7F800000#32
  let main_v10 : FVec F S1x1024x32 .f32 := broadcastInDim S1x1024x32 ![] bcast_S_S1x1024x32 main_cst_2
  let main_v11 : IVec S1x1024x32 1 := cmpf .olt main_v9 main_v10
  let main_v12 : FVec F S1x32 .f32 := Host.absf main_arg11
  let main_cst_3 : FVec F S_ .f32 := constant S_ .f32 0x7F800000#32
  let main_v13 : FVec F S1x32 .f32 := broadcastInDim S1x32 ![] bcast_S_S1x32 main_cst_3
  let main_v14 : IVec S1x32 1 := cmpf .olt main_v12 main_v13
  (main_v2, main_v5, main_v8, main_v11, main_v14)
-- ==== Kernel.lean ====
abbrev S32768x1024 : Shape := ⟨2, ![32768, 1024]⟩
abbrev S128x32768 : Shape := ⟨2, ![128, 32768]⟩
abbrev S1x32x1024x512 : Shape := ⟨4, ![1, 32, 1024, 512]⟩
abbrev S1x32x512x1024 : Shape := ⟨4, ![1, 32, 512, 1024]⟩
abbrev S1024 : Shape := ⟨1, ![1024]⟩
abbrev S32x1024x512 : Shape := ⟨3, ![32, 1024, 512]⟩
abbrev S32x512x1024 : Shape := ⟨3, ![32, 512, 1024]⟩
abbrev S32x32768 : Shape := ⟨2, ![32, 32768]⟩
abbrev S_ : Shape := ⟨0, ![]⟩
abbrev S32x32x1024 : Shape := ⟨3, ![32, 32, 1024]⟩
abbrev S32x32 : Shape := ⟨2, ![32, 32]⟩
abbrev S1024x1 : Shape := ⟨2, ![1024, 1]⟩
abbrev S1x1024 : Shape := ⟨2, ![1, 1024]⟩
abbrev S1024x1024 : Shape := ⟨2, ![1024, 1024]⟩
abbrev S128x1024 : Shape := ⟨2, ![128, 1024]⟩
abbrev S1x1024x512 : Shape := ⟨3, ![1, 1024, 512]⟩
abbrev S1x512x1024 : Shape := ⟨3, ![1, 512, 1024]⟩
abbrev S1 : Shape := ⟨1, ![1]⟩
abbrev S1024x512 : Shape := ⟨2, ![1024, 512]⟩
abbrev S128x512 : Shape := ⟨2, ![128, 512]⟩
abbrev S512x1024 : Shape := ⟨2, ![512, 1024]⟩
abbrev S128 : Shape := ⟨1, ![128]⟩
abbrev S128x1 : Shape := ⟨2, ![128, 1]⟩

abbrev nBuf : Space → Nat
  | .hbm => 31
  | .vmem => 18
  | .smem => 1
  | _ => 0

abbrev bufTy : (tb : Table) → Fin (tcTables nBuf tb) → BufTy
  | .hbm, ⟨0, _⟩ => ⟨S32768x1024, .bf16⟩
  | .hbm, ⟨1, _⟩ => ⟨S128x32768, .f32⟩
  | .hbm, ⟨2, _⟩ => ⟨S32768x1024, .f32⟩
  | .hbm, ⟨3, _⟩ => ⟨S1x32x1024x512, .f32⟩
  | .hbm, ⟨4, _⟩ => ⟨S1x32x1024x512, .f32⟩
  | .hbm, ⟨5, _⟩ => ⟨S1x32x512x1024, .f32⟩
  | .hbm, ⟨6, _⟩ => ⟨S1024, .f32⟩
  | .hbm, ⟨7, _⟩ => ⟨S32x1024x512, .f32⟩
  | .hbm, ⟨8, _⟩ => ⟨S32x1024x512, .f32⟩
  | .hbm, ⟨9, _⟩ => ⟨S32x512x1024, .f32⟩
  | .hbm, ⟨10, _⟩ => ⟨S32x1024x512, .bf16⟩
  | .hbm, ⟨11, _⟩ => ⟨S32x1024x512, .bf16⟩
  | .hbm, ⟨12, _⟩ => ⟨S32x512x1024, .bf16⟩
  | .hbm, ⟨13, _⟩ => ⟨S32x32768, .f32⟩
  | .hbm, ⟨14, _⟩ => ⟨S_, .f32⟩
  | .hbm, ⟨15, _⟩ => ⟨S32x32768, .f32⟩
  | .hbm, ⟨16, _⟩ => ⟨S32x32768, .i1⟩
  | .hbm, ⟨17, _⟩ => ⟨S32x32x1024, .i1⟩
  | .hbm, ⟨18, _⟩ => ⟨S32x32x1024, .i32⟩
  | .hbm, ⟨19, _⟩ => ⟨S_, .i32⟩
  | .hbm, ⟨20, _⟩ => ⟨S32x32, .i32⟩
  | .hbm, ⟨21, _⟩ => ⟨S32x32, .i32⟩
  | .hbm, ⟨22, _⟩ => ⟨S1024, .i32⟩
  | .hbm, ⟨23, _⟩ => ⟨S1024x1, .i32⟩
  | .hbm, ⟨24, _⟩ => ⟨S1x1024, .i32⟩
  | .hbm, ⟨25, _⟩ => ⟨S1024x1024, .i32⟩
  | .hbm, ⟨26, _⟩ => ⟨S1024x1024, .i32⟩
  | .hbm, ⟨27, _⟩ => ⟨S1024x1024, .i1⟩
  | .hbm, ⟨28, _⟩ => ⟨S1024x1024, .bf16⟩
  | .hbm, ⟨29, _⟩ => ⟨S1x1024, .f32⟩
  | .hbm, ⟨30, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .f32⟩
  | .local _ .vmem, ⟨3, _⟩ => ⟨S128x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S128x1024, .f32⟩
  | .local _ .smem, ⟨0, _⟩ => ⟨S1024, .i32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v13 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 32], ![false, false]⟩

abbrev pre0 : Pipeline.Prefetch sig := ⟨1, ![main_v13.idx], fun | 0 => main_v13.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg1 : BitVec 32 := BitVec.ofNat 32 (i 1).val
  let v3 : Index := Scalar.indexCast arg1
  let c0 : Index := 0#32
  ![v3.toNat, 0]
def k0_off2 (i : grid0.Coords) : Fin 1 → Nat :=
  let arg0 : BitVec 32 := BitVec.ofNat 32 (i 0).val
  let c32_i32 : BitVec 32 := 32#32
  let v9 : BitVec 32 := Scalar.muli arg0 c32_i32
  let arg1 : BitVec 32 := BitVec.ofNat 32 (i 1).val
  let v10 : BitVec 32 := Scalar.addi v9 arg1
  let v11 : Index := Scalar.indexCast v10
  ![v11.toNat]
@[reducible] def k0_t1_loop (v12 : BitVec 32) : Scf.Loop 32 :=
  let c0_i32_10 : BitVec 32 := 0#32
  let c128_i32 : BitVec 32 := 128#32
  let v15 : BitVec 32 := Scalar.addi v12 c128_i32
  let c1_i32 : BitVec 32 := 1#32
  let v16 : BitVec 32 := Scalar.subi v15 c1_i32
  let c0_i32_3 : BitVec 32 := 0#32
  let v18 : BitVec 1 := Scalar.cmpi .sgt v16 c0_i32_3
  let v19 : BitVec 32 := Scalar.extui v18
  let c0_i32_4 : BitVec 32 := 0#32
  let v20 : BitVec 1 := Scalar.cmpi .slt v16 c0_i32_4
  let v21 : BitVec 32 := Scalar.extui v20
  let v22 : BitVec 32 := Scalar.subi v19 v21
  let c128_i32_2 : BitVec 32 := 128#32
  let c0_i32_5 : BitVec 32 := 0#32
  let v23 : BitVec 1 := Scalar.cmpi .sgt c128_i32_2 c0_i32_5
  let v24 : BitVec 32 := Scalar.extui v23
  let c0_i32_6 : BitVec 32 := 0#32
  let v25 : BitVec 1 := Scalar.cmpi .slt c128_i32_2 c0_i32_6
  let v26 : BitVec 32 := Scalar.extui v25
  let v27 : BitVec 32 := Scalar.subi v24 v26
  let v28 : BitVec 1 := Scalar.cmpi .ne v22 v27
  let v29 : BitVec 32 := Scalar.remsi v16 c128_i32_2
  let c0_i32_7 : BitVec 32 := 0#32
  let v30 : BitVec 1 := Scalar.cmpi .ne v29 c0_i32_7
  let v31 : BitVec 1 := Scalar.andi v28 v30
  let v17 : BitVec 32 := Scalar.divsi v16 c128_i32_2
  let c1_i32_8 : BitVec 32 := 1#32
  let v32 : BitVec 32 := Scalar.subi v17 c1_i32_8
  let v33 : BitVec 32 := Scalar.select v31 v32 v17
  let v34 : BitVec 32 := Scalar.subi v33 c0_i32_10
  let c1_i32_11 : BitVec 32 := 1#32
  let v36 : BitVec 32 := Scalar.divsi v34 c1_i32_11
  let v37 : BitVec 32 := Scalar.muli v36 c1_i32_11
  let v38 : BitVec 32 := Scalar.addi c0_i32_10 v37
  let c1_i32_12 : BitVec 32 := 1#32
  ⟨c0_i32_10, v38, c1_i32_12⟩

@[reducible] def k0_t2_loop (v12 : BitVec 32) : Scf.Loop 32 :=
  let c0_i32_10 : BitVec 32 := 0#32
  let c128_i32 : BitVec 32 := 128#32
  let v15 : BitVec 32 := Scalar.addi v12 c128_i32
  let c1_i32 : BitVec 32 := 1#32
  let v16 : BitVec 32 := Scalar.subi v15 c1_i32
  let c0_i32_3 : BitVec 32 := 0#32
  let v18 : BitVec 1 := Scalar.cmpi .sgt v16 c0_i32_3
  let v19 : BitVec 32 := Scalar.extui v18
  let c0_i32_4 : BitVec 32 := 0#32
  let v20 : BitVec 1 := Scalar.cmpi .slt v16 c0_i32_4
  let v21 : BitVec 32 := Scalar.extui v20
  let v22 : BitVec 32 := Scalar.subi v19 v21
  let c128_i32_2 : BitVec 32 := 128#32
  let c0_i32_5 : BitVec 32 := 0#32
  let v23 : BitVec 1 := Scalar.cmpi .sgt c128_i32_2 c0_i32_5
  let v24 : BitVec 32 := Scalar.extui v23
  let c0_i32_6 : BitVec 32 := 0#32
  let v25 : BitVec 1 := Scalar.cmpi .slt c128_i32_2 c0_i32_6
  let v26 : BitVec 32 := Scalar.extui v25
  let v27 : BitVec 32 := Scalar.subi v24 v26
  let v28 : BitVec 1 := Scalar.cmpi .ne v22 v27
  let v29 : BitVec 32 := Scalar.remsi v16 c128_i32_2
  let c0_i32_7 : BitVec 32 := 0#32
  let v30 : BitVec 1 := Scalar.cmpi .ne v29 c0_i32_7
  let v31 : BitVec 1 := Scalar.andi v28 v30
  let v17 : BitVec 32 := Scalar.divsi v16 c128_i32_2
  let c1_i32_8 : BitVec 32 := 1#32
  let v32 : BitVec 32 := Scalar.subi v17 c1_i32_8
  let v33 : BitVec 32 := Scalar.select v31 v32 v17
  let v34 : BitVec 32 := Scalar.subi v33 c0_i32_10
  let c1_i32_11 : BitVec 32 := 1#32
  let v36 : BitVec 32 := Scalar.divsi v34 c1_i32_11
  let v37 : BitVec 32 := Scalar.muli v36 c1_i32_11
  let v38 : BitVec 32 := Scalar.addi c0_i32_10 v37
  let v35 : BitVec 32 := Scalar.addi c0_i32_10 v34
  let c1_i32_13 : BitVec 32 := 1#32
  ⟨v38, v35, c1_i32_13⟩

def k0_chk1 (v12 : BitVec 32) : Prop :=
  ((k0_t1_loop v12).OK) ∧
  ((k0_t2_loop v12).OK)
theorem k0_t1_ok : ∀ (v12 : BitVec 32) (k0_hw1 : k0_chk1 v12), (k0_t1_loop v12).OK := fun v12 k0_hw1 => k0_hw1.1
theorem k0_t2_ok : ∀ (v12 : BitVec 32) (k0_hw1 : k0_chk1 v12), (k0_t2_loop v12).OK := fun v12 k0_hw1 => k0_hw1.2

def k0_cond2 (i : grid0.Coords) : BitVec 1 :=
  let arg1 : BitVec 32 := BitVec.ofNat 32 (i 1).val
  let c31_i32 : BitVec 32 := 31#32
  let v39 : BitVec 1 := Scalar.cmpi .eq arg1 c31_i32
  let v40 : BitVec 32 := Scalar.extui v39
  let c0_i32_14 : BitVec 32 := 0#32
  let v41 : BitVec 1 := Scalar.cmpi .ne v40 c0_i32_14
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S32768x1024 : Shape := ⟨2, ![32768, 1024]⟩
abbrev S128x32768 : Shape := ⟨2, ![128, 32768]⟩
abbrev S1x32x1024x512 : Shape := ⟨4, ![1, 32, 1024, 512]⟩
abbrev S1x32x512x1024 : Shape := ⟨4, ![1, 32, 512, 1024]⟩
abbrev S1024 : Shape := ⟨1, ![1024]⟩
abbrev S32x1024x512 : Shape := ⟨3, ![32, 1024, 512]⟩
abbrev S32x512x1024 : Shape := ⟨3, ![32, 512, 1024]⟩
abbrev S32x32768 : Shape := ⟨2, ![32, 32768]⟩
abbrev S_ : Shape := ⟨0, ![]⟩
abbrev S32x512x32768 : Shape := ⟨3, ![32, 512, 32768]⟩
abbrev S32x32768x512 : Shape := ⟨3, ![32, 32768, 512]⟩
abbrev S32x32768x1024 : Shape := ⟨3, ![32, 32768, 1024]⟩
abbrev S32x32768x1 : Shape := ⟨3, ![32, 32768, 1]⟩
abbrev S32768 : Shape := ⟨1, ![32768]⟩
abbrev S32768x1 : Shape := ⟨2, ![32768, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S128x32768, .f32⟩
  | .hbm, ⟨2, _⟩ => ⟨S32768x1024, .f32⟩
  | .hbm, ⟨3, _⟩ => ⟨S1x32x1024x512, .f32⟩
  | .hbm, ⟨4, _⟩ => ⟨S1x32x1024x512, .f32⟩
  | .hbm, ⟨5, _⟩ => ⟨S1x32x512x1024, .f32⟩
  | .hbm, ⟨6, _⟩ => ⟨S1024, .f32⟩
  | .hbm, ⟨7, _⟩ => ⟨S32768x1024, .f32⟩
  | .hbm, ⟨8, _⟩ => ⟨S32x1024x512, .f32⟩
  | .hbm, ⟨9, _⟩ => ⟨S32x1024x512, .f32⟩
  | .hbm, ⟨10, _⟩ => ⟨S32x512x1024, .f32⟩
  | .hbm, ⟨11, _⟩ => ⟨S32x32768, .f32⟩
  | .hbm, ⟨12, _⟩ => ⟨S_, .f32⟩
  | .hbm, ⟨13, _⟩ => ⟨S32x32768, .f32⟩
  | .hbm, ⟨14, _⟩ => ⟨S32x32768, .i1⟩
  | .hbm, ⟨15, _⟩ => ⟨S_, .f32⟩
  | .hbm, ⟨16, _⟩ => ⟨S_, .f32⟩
  | .hbm, ⟨17, _⟩ => ⟨S32x32768, .f32⟩
  | .hbm, ⟨18, _⟩ => ⟨S32x32768, .f32⟩
  | .hbm, ⟨19, _⟩ => ⟨S32x512x32768, .f32⟩
  | .hbm, ⟨20, _⟩ => ⟨S32x32768x512, .f32⟩
  | .hbm, ⟨21, _⟩ => ⟨S32x32768x512, .f32⟩
  | .hbm, ⟨22, _⟩ => ⟨S32x32768x512, .f32⟩
  | .hbm, ⟨23, _⟩ => ⟨S_, .f32⟩
  | .hbm, ⟨24, _⟩ => ⟨S32x32768x512, .f32⟩
  | .hbm, ⟨25, _⟩ => ⟨S32x32768x512, .f32⟩
  | .hbm, ⟨26, _⟩ => ⟨S_, .f32⟩
  | .hbm, ⟨27, _⟩ => ⟨S32x32768x512, .f32⟩
  | .hbm, ⟨28, _⟩ => ⟨S32x32768x512, .f32⟩
  | .hbm, ⟨29, _⟩ => ⟨S32x32768x512, .f32⟩
  | .hbm, ⟨30, _⟩ => ⟨S32x512x32768, .f32⟩
  | .hbm, ⟨31, _⟩ => ⟨S32x32768x512, .f32⟩
  | .hbm, ⟨32, _⟩ => ⟨S32x32768x512, .f32⟩
  | .hbm, ⟨33, _⟩ => ⟨S32x32768x1024, .f32⟩
  | .hbm, ⟨34, _⟩ => ⟨S32x32768x1, .f32⟩
  | .hbm, ⟨35, _⟩ => ⟨S32x32768x1024, .f32⟩
  | .hbm, ⟨36, _⟩ => ⟨S32x32768x1024, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩

abbrev nD : Nat := 1
abbrev τ : Topo := Topo.v7x

variable {F : FTy → Type} [FloatOps F]
-- ==== Kernel2.lean ====
abbrev S4x8192x1024 : Shape := ⟨3, ![4, 8192, 1024]⟩
abbrev S1x1024 : Shape := ⟨2, ![1, 1024]⟩
abbrev S1x1024x5504 : Shape := ⟨3, ![1, 1024, 5504]⟩
abbrev S32768x1024 : Shape := ⟨2, ![32768, 1024]⟩
abbrev S1024x5504 : Shape := ⟨2, ![1024, 5504]⟩
abbrev S1024 : Shape := ⟨1, ![1024]⟩
abbrev S1024x1920 : Shape := ⟨2, ![1024, 1920]⟩
abbrev S1024x1536 : Shape := ⟨2, ![1024, 1536]⟩
abbrev S1024x2048 : Shape := ⟨2, ![1024, 2048]⟩
abbrev S32768x1920 : Shape := ⟨2, ![32768, 1920]⟩
abbrev S32768x1536 : Shape := ⟨2, ![32768, 1536]⟩
abbrev S32768x2048 : Shape := ⟨2, ![32768, 2048]⟩
abbrev S256x1024 : Shape := ⟨2, ![256, 1024]⟩
abbrev S256x1920 : Shape := ⟨2, ![256, 1920]⟩
abbrev S256x1536 : Shape := ⟨2, ![256, 1536]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5504, .f32⟩
  | .hbm, ⟨3, _⟩ => ⟨S32768x1024, .f32⟩
  | .hbm, ⟨4, _⟩ => ⟨S1024x5504, .f32⟩
  | .hbm, ⟨5, _⟩ => ⟨S1024x5504, .bf16⟩
  | .hbm, ⟨6, _⟩ => ⟨S1024, .f32⟩
  | .hbm, ⟨7, _⟩ => ⟨S1024x1920, .bf16⟩
  | .hbm, ⟨8, _⟩ => ⟨S1024x1536, .bf16⟩
  | .hbm, ⟨9, _⟩ => ⟨S1024x2048, .bf16⟩
  | .hbm, ⟨10, _⟩ => ⟨S1x1024, .f32⟩
  | .hbm, ⟨11, _⟩ => ⟨S32768x1920, .f32⟩
  | .hbm, ⟨12, _⟩ => ⟨S32768x1536, .f32⟩
  | .hbm, ⟨13, _⟩ => ⟨S32768x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1920, .bf16⟩
  | .local _ .vmem, ⟨4, _⟩ => ⟨S1024x1536, .bf16⟩
  | .local _ .vmem, ⟨5, _⟩ => ⟨S1024x2048, .bf16⟩
  | .local _ .vmem, ⟨6, _⟩ => ⟨S256x1920, .f32⟩
  | .local _ .vmem, ⟨7, _⟩ => ⟨S256x1920, .f32⟩
  | .local _ .vmem, ⟨8, _⟩ => ⟨S256x1536, .f32⟩
  | .local _ .vmem, ⟨9, _⟩ => ⟨S256x1536, .f32⟩
  | .local _ .vmem, ⟨10, _⟩ => ⟨S256x2048, .f32⟩
  | .local _ .vmem, ⟨11, _⟩ => ⟨S256x2048, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S4x8192x1024 : Shape := ⟨3, ![4, 8192, 1024]⟩
abbrev S1x1024 : Shape := ⟨2, ![1, 1024]⟩
abbrev S1x1024x5504 : Shape := ⟨3, ![1, 1024, 5504]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x5504 : Shape := ⟨2, ![1024, 5504]⟩
abbrev S4x8192x5504 : Shape := ⟨3, ![4, 8192, 5504]⟩
abbrev S32768x5504 : Shape := ⟨2, ![32768, 5504]⟩
abbrev S32768x1920 : Shape := ⟨2, ![32768, 1920]⟩
abbrev S32768x1536 : Shape := ⟨2, ![32768, 1536]⟩
abbrev S32768x2048 : Shape := ⟨2, ![32768, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5504, .f32⟩
  | .hbm, ⟨3, _⟩ => ⟨S1024, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S1024x5504, .f32⟩
  | .hbm, ⟨21, _⟩ => ⟨S4x8192x5504, .f32⟩
  | .hbm, ⟨22, _⟩ => ⟨S32768x5504, .f32⟩
  | .hbm, ⟨23, _⟩ => ⟨S32768x1920, .f32⟩
  | .hbm, ⟨24, _⟩ => ⟨S32768x1536, .f32⟩
  | .hbm, ⟨25, _⟩ => ⟨S32768x2048, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel3.lean ====
abbrev S32768x1024 : Shape := ⟨2, ![32768, 1024]⟩
abbrev S32768x512 : Shape := ⟨2, ![32768, 512]⟩
abbrev S32768x2048 : Shape := ⟨2, ![32768, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S128x32768 : Shape := ⟨2, ![128, 32768]⟩
abbrev S512x512 : Shape := ⟨2, ![512, 512]⟩
abbrev S512x2048 : Shape := ⟨2, ![512, 2048]⟩
abbrev S128x512 : Shape := ⟨2, ![128, 512]⟩
abbrev S512 : Shape := ⟨1, ![512]⟩
abbrev S512x1 : Shape := ⟨2, ![512, 1]⟩
abbrev S512x128 : Shape := ⟨2, ![512, 128]⟩

abbrev nBuf : Space → Nat
  | .hbm => 34
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x2048, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x4, .f32⟩
  | .hbm, ⟨9, _⟩ => ⟨S1x4, .f32⟩
  | .hbm, ⟨10, _⟩ => ⟨S1x1024x32, .f32⟩
  | .hbm, ⟨11, _⟩ => ⟨S1x32, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1024, .f32⟩
  | .hbm, ⟨16, _⟩ => ⟨S1024x4, .f32⟩
  | .hbm, ⟨17, _⟩ => ⟨S4, .f32⟩
  | .hbm, ⟨18, _⟩ => ⟨S1024x32, .f32⟩
  | .hbm, ⟨19, _⟩ => ⟨S32, .f32⟩
  | .hbm, ⟨20, _⟩ => ⟨S512x1024, .bf16⟩
  | .hbm, ⟨21, _⟩ => ⟨S512x1024, .bf16⟩
  | .hbm, ⟨22, _⟩ => ⟨S1024x1024, .bf16⟩
  | .hbm, ⟨23, _⟩ => ⟨S_, .f32⟩
  | .hbm, ⟨24, _⟩ => ⟨S1024x92, .f32⟩
  | .hbm, ⟨25, _⟩ => ⟨S1024x128, .f32⟩
  | .hbm, ⟨26, _⟩ => ⟨S_, .f32⟩
  | .hbm, ⟨27, _⟩ => ⟨S92, .f32⟩
  | .hbm, ⟨28, _⟩ => ⟨S128, .f32⟩
  | .hbm, ⟨29, _⟩ => ⟨S1x128, .f32⟩
  | .hbm, ⟨30, _⟩ => ⟨S1x1024, .f32⟩
  | .hbm, ⟨31, _⟩ => ⟨S32768x1024, .f32⟩
  | .hbm, ⟨32, _⟩ => ⟨S32768x1024, .bf16⟩
  | .hbm, ⟨33, _⟩ => ⟨S128x32768, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .f32⟩
  | .local _ .vmem, ⟨7, _⟩ => ⟨S512x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x128, .f32⟩
  | .local _ .vmem, ⟨13, _⟩ => ⟨S1x128, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S128x512, .f32⟩
  | .local _ .vmem, ⟨19, _⟩ => ⟨S128x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S32768x1024 : Shape := ⟨2, ![32768, 1024]⟩
abbrev S32768x512 : Shape := ⟨2, ![32768, 512]⟩
abbrev S32768x2048 : Shape := ⟨2, ![32768, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S32768 : Shape := ⟨1, ![32768]⟩
abbrev S32768x1 : Shape := ⟨2, ![32768, 1]⟩

abbrev nBuf : Space → Nat
  | .hbm => 58
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x2048, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x4, .f32⟩
  | .hbm, ⟨9, _⟩ => ⟨S1x4, .f32⟩
  | .hbm, ⟨10, _⟩ => ⟨S1x1024x32, .f32⟩
  | .hbm, ⟨11, _⟩ => ⟨S1x32, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S512x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S512x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S1024x1024, .f32⟩
  | .hbm, ⟨38, _⟩ => ⟨S32768x1024, .f32⟩
  | .hbm, ⟨39, _⟩ => ⟨S32768x1024, .f32⟩
  | .hbm, ⟨40, _⟩ => ⟨S1024, .f32⟩
  | .hbm, ⟨41, _⟩ => ⟨S32768x1024, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x1, .f32⟩
  | .hbm, ⟨52, _⟩ => ⟨S32768x1024, .f32⟩
  | .hbm, ⟨53, _⟩ => ⟨S32768x1024, .f32⟩
  | .hbm, ⟨54, _⟩ => ⟨S1x1024, .f32⟩
  | .hbm, ⟨55, _⟩ => ⟨S32768x1024, .f32⟩
  | .hbm, ⟨56, _⟩ => ⟨S32768x1024, .f32⟩
  | .hbm, ⟨57, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Kernel4.lean ====
abbrev S32768x1024 : Shape := ⟨2, ![32768, 1024]⟩
abbrev S32768x512 : Shape := ⟨2, ![32768, 512]⟩
abbrev S32768x2048 : Shape := ⟨2, ![32768, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S512x1024 : Shape := ⟨2, ![512, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S128x32768 : Shape := ⟨2, ![128, 32768]⟩
abbrev S512x512 : Shape := ⟨2, ![512, 512]⟩
abbrev S512x2048 : Shape := ⟨2, ![512, 2048]⟩
abbrev S128x512 : Shape := ⟨2, ![128, 512]⟩
abbrev S512 : Shape := ⟨1, ![512]⟩
abbrev S512x1 : Shape := ⟨2, ![512, 1]⟩
abbrev S512x128 : Shape := ⟨2, ![512, 128]⟩

abbrev nBuf : Space → Nat
  | .hbm => 34
  | .vmem => 20
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S32768x2048, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x4, .f32⟩
  | .hbm, ⟨9, _⟩ => ⟨S1x4, .f32⟩
  | .hbm, ⟨10, _⟩ => ⟨S1x1024x32, .f32⟩
  | .hbm, ⟨11, _⟩ => ⟨S1x32, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1024, .f32⟩
  | .hbm, ⟨16, _⟩ => ⟨S1024x4, .f32⟩
  | .hbm, ⟨17, _⟩ => ⟨S4, .f32⟩
  | .hbm, ⟨18, _⟩ => ⟨S1024x32, .f32⟩
  | .hbm, ⟨19, _⟩ => ⟨S32, .f32⟩
  | .hbm, ⟨20, _⟩ => ⟨S512x1024, .bf16⟩
  | .hbm, ⟨21, _⟩ => ⟨S512x1024, .bf16⟩
  | .hbm, ⟨22, _⟩ => ⟨S1024x1024, .bf16⟩
  | .hbm, ⟨23, _⟩ => ⟨S_, .f32⟩
  | .hbm, ⟨24, _⟩ => ⟨S1024x92, .f32⟩
  | .hbm, ⟨25, _⟩ => ⟨S1024x128, .f32⟩
  | .hbm, ⟨26, _⟩ => ⟨S_, .f32⟩
  | .hbm, ⟨27, _⟩ => ⟨S92, .f32⟩
  | .hbm, ⟨28, _⟩ => ⟨S128, .f32⟩
  | .hbm, ⟨29, _⟩ => ⟨S1x128, .f32⟩
  | .hbm, ⟨30, _⟩ => ⟨S1x1024, .f32⟩
  | .hbm, ⟨31, _⟩ => ⟨S32768x1024, .f32⟩
  | .hbm, ⟨32, _⟩ => ⟨S32768x1024, .bf16⟩
  | .hbm, ⟨33, _⟩ => ⟨S128x32768, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .f32⟩
  | .local _ .vmem, ⟨7, _⟩ => ⟨S512x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x128, .f32⟩
  | .local _ .vmem, ⟨13, _⟩ => ⟨S1x128, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S128x512, .f32⟩
  | .local _ .vmem, ⟨19, _⟩ => ⟨S128x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S32768x1024 : Shape := ⟨2, ![32768, 1024]⟩
abbrev S32768x512 : Shape := ⟨2, ![32768, 512]⟩
abbrev S32768x2048 : Shape := ⟨2, ![32768, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S32768 : Shape := ⟨1, ![32768]⟩
abbrev S32768x1 : Shape := ⟨2, ![32768, 1]⟩
abbrev S1024x4 : Shape := ⟨2, ![1024, 4]⟩
abbrev S32768x4 : Shape := ⟨2, ![32768, 4]⟩
abbrev S4 : Shape := ⟨1, ![4]⟩
abbrev S32 : Shape := ⟨1, ![32]⟩
abbrev S32768x32 : Shape := ⟨2, ![32768, 32]⟩
abbrev S1024x32 : Shape := ⟨2, ![1024, 32]⟩
abbrev S32768x2 : Shape := ⟨2, ![32768, 2]⟩
abbrev S128 : Shape := ⟨1, ![128]⟩
abbrev S1x128 : Shape := ⟨2, ![1, 128]⟩
abbrev S32768x128 : Shape := ⟨2, ![32768, 128]⟩
abbrev S128x32768 : Shape := ⟨2, ![128, 32768]⟩

abbrev nBuf : Space → Nat
  | .hbm => 201
  | .vmem => 0
  | .smem => 0
  | _ => 0

abbrev hbmTy0_0 (i : Nat) : BufTy := match i % 128 with
  | 0 => ⟨S32768x1024, .f32⟩
  | 1 => ⟨S32768x512, .f32⟩
  | 2 => ⟨S32768x512, .f32⟩
  | 3 => ⟨S32768x2048, .f32⟩
  | 4 => ⟨S1x512x1024, .f32⟩
  | 5 => ⟨S1x512x1024, .f32⟩
  | 6 => ⟨S1x1024x1024, .f32⟩
  | 7 => ⟨S1x1024, .f32⟩
  | 8 => ⟨S1x1024x4, .f32⟩
  | 9 => ⟨S1x4, .f32⟩
  | 10 => ⟨S1x1024x32, .f32⟩
  | 11 => ⟨S1x32, .f32⟩
  | 12 => ⟨S32768x1024, .f32⟩
  | 13 => ⟨S32768x1024, .f32⟩
  | 14 => ⟨S32768x1024, .f32⟩
  | 15 => ⟨S32768x1024, .f32⟩
  | 16 => ⟨S_, .f32⟩
  | 17 => ⟨S32768x1024, .f32⟩
  | 18 => ⟨S32768x1024, .f32⟩
  | 19 => ⟨S_, .f32⟩
  | 20 => ⟨S32768x1024, .f32⟩
  | 21 => ⟨S32768x1024, .f32⟩
  | 22 => ⟨S512x1024, .f32⟩
  | 23 => ⟨S32768x1024, .f32⟩
  | 24 => ⟨S32768x1024, .f32⟩
  | 25 => ⟨S32768x1024, .f32⟩
  | 26 => ⟨S32768x1024, .f32⟩
  | 27 => ⟨S_, .f32⟩
  | 28 => ⟨S32768x1024, .f32⟩
  | 29 => ⟨S32768x1024, .f32⟩
  | 30 => ⟨S_, .f32⟩
  | 31 => ⟨S32768x1024, .f32⟩
  | 32 => ⟨S32768x1024, .f32⟩
  | 33 => ⟨S512x1024, .f32⟩
  | 34 => ⟨S32768x1024, .f32⟩
  | 35 => ⟨S32768x1024, .f32⟩
  | 36 => ⟨S32768x1024, .f32⟩
  | 37 => ⟨S1024x1024, .f32⟩
  | 38 => ⟨S32768x1024, .f32⟩
  | 39 => ⟨S32768x1024, .f32⟩
  | 40 => ⟨S1024, .f32⟩
  | 41 => ⟨S32768x1024, .f32⟩
  | 42 => ⟨S_, .f32⟩
  | 43 => ⟨S32768, .f32⟩
  | 44 => ⟨S32768x1, .f32⟩
  | 45 => ⟨S_, .f32⟩
  | 46 => ⟨S32768x1, .f32⟩
  | 47 => ⟨S32768x1, .f32⟩
  | 48 => ⟨S_, .f32⟩
  | 49 => ⟨S32768x1, .f32⟩
  | 50 => ⟨S32768x1, .f32⟩
  | 51 => ⟨S32768x1, .f32⟩
  | 52 => ⟨S32768x1024, .f32⟩
  | 53 => ⟨S32768x1024, .f32⟩
  | 54 => ⟨S1x1024, .f32⟩
  | 55 => ⟨S32768x1024, .f32⟩
  | 56 => ⟨S32768x1024, .f32⟩
  | 57 => ⟨S1024x4, .f32⟩
  | 58 => ⟨S32768x4, .f32⟩
  | 59 => ⟨S4, .f32⟩
  | 60 => ⟨S1x4, .f32⟩
  | 61 => ⟨S32768x4, .f32⟩
  | 62 => ⟨S32768x4, .f32⟩
  | 63 => ⟨S4, .i32⟩
  | 64 => ⟨S_, .f32⟩
  | 65 => ⟨S32768, .f32⟩
  | 66 => ⟨S32768x1, .f32⟩
  | 67 => ⟨S32768x4, .f32⟩
  | 68 => ⟨S32768x4, .i1⟩
  | 69 => ⟨S_, .i32⟩
  | 70 => ⟨S_, .i32⟩
  | 71 => ⟨S32768x4, .i32⟩
  | 72 => ⟨S32768x4, .i32⟩
  | 73 => ⟨S32768x4, .i32⟩
  | 74 => ⟨S_, .i32⟩
  | 75 => ⟨S32768, .i32⟩
  | 76 => ⟨S32768x1, .i32⟩
  | 77 => ⟨S4, .i32⟩
  | 78 => ⟨S1x4, .i32⟩
  | 79 => ⟨S32768x4, .i32⟩
  | 80 => ⟨S32768x4, .i32⟩
  | 81 => ⟨S32768x4, .i1⟩
  | 82 => ⟨S_, .f32⟩
  | 83 => ⟨S32768, .f32⟩
  | 84 => ⟨S_, .f32⟩
  | 85 => ⟨S32768, .f32⟩
  | 86 => ⟨S32768, .f32⟩
  | 87 => ⟨S32768x1, .f32⟩
  | 88 => ⟨S32768x4, .f32⟩
  | 89 => ⟨S32768x4, .f32⟩
  | 90 => ⟨S32768x4, .f32⟩
  | 91 => ⟨S_, .f32⟩
  | 92 => ⟨S32768, .f32⟩
  | 93 => ⟨S32768x1, .f32⟩
  | 94 => ⟨S32768x4, .f32⟩
  | 95 => ⟨S32768x4, .f32⟩
  | 96 => ⟨S_, .f32⟩
  | 97 => ⟨S_, .f32⟩
  | 98 => ⟨S32768x4, .f32⟩
  | 99 => ⟨S32768x4, .f32⟩
  | 100 => ⟨S_, .f32⟩
  | 101 => ⟨S32768, .f32⟩
  | 102 => ⟨S32768x1, .f32⟩
  | 103 => ⟨S32, .i32⟩
  | 104 => ⟨S_, .i32⟩
  | 105 => ⟨S32768x1, .i32⟩
  | 106 => ⟨S32768x1, .i32⟩
  | 107 => ⟨S1x32, .i32⟩
  | 108 => ⟨S32768x32, .i32⟩
  | 109 => ⟨S32768x32, .i32⟩
  | 110 => ⟨S32768x32, .i1⟩
  | 111 => ⟨S_, .i32⟩
  | 112 => ⟨S32768x1, .i32⟩
  | 113 => ⟨S32768x1, .i32⟩
  | 114 => ⟨S1x32, .i32⟩
  | 115 => ⟨S32768x32, .i32⟩
  | 116 => ⟨S32768x32, .i32⟩
  | 117 => ⟨S32768x32, .i1⟩
  | 118 => ⟨S32768x32, .i1⟩
  | 119 => ⟨S1024x32, .f32⟩
  | 120 => ⟨S32768x32, .f32⟩
  | 121 => ⟨S32, .f32⟩
  | 122 => ⟨S1x32, .f32⟩
  | 123 => ⟨S32768x32, .f32⟩
  | 124 => ⟨S32768x32, .f32⟩
  | 125 => ⟨S_, .f32⟩
  | 126 => ⟨S_, .f32⟩
  | 127 => ⟨S32768x32, .f32⟩
  | _ => ⟨S32768x1024, .f32⟩

abbrev hbmTy0_1 (i : Nat) : BufTy := match i % 128 with
  | 0 => ⟨S32768x32, .f32⟩
  | 1 => ⟨S32, .i32⟩
  | 2 => ⟨S_, .f32⟩
  | 3 => ⟨S32768, .f32⟩
  | 4 => ⟨S32768x1, .f32⟩
  | 5 => ⟨S32768x32, .f32⟩
  | 6 => ⟨S32768x32, .i1⟩
  | 7 => ⟨S_, .i32⟩
  | 8 => ⟨S_, .i32⟩
  | 9 => ⟨S32768x32, .i32⟩
  | 10 => ⟨S32768x32, .i32⟩
  | 11 => ⟨S32768x32, .i32⟩
  | 12 => ⟨S_, .i32⟩
  | 13 => ⟨S32768, .i32⟩
  | 14 => ⟨S32768x1, .i32⟩
  | 15 => ⟨S1x32, .i32⟩
  | 16 => ⟨S32768x32, .i32⟩
  | 17 => ⟨S32768x32, .i32⟩
  | 18 => ⟨S32768x32, .i1⟩
  | 19 => ⟨S_, .f32⟩
  | 20 => ⟨S_, .f32⟩
  | 21 => ⟨S32768x32, .f32⟩
  | 22 => ⟨S32768x32, .f32⟩
  | 23 => ⟨S32, .i32⟩
  | 24 => ⟨S_, .f32⟩
  | 25 => ⟨S32768, .f32⟩
  | 26 => ⟨S32768x1, .f32⟩
  | 27 => ⟨S32768x32, .f32⟩
  | 28 => ⟨S32768x32, .i1⟩
  | 29 => ⟨S_, .i32⟩
  | 30 => ⟨S_, .i32⟩
  | 31 => ⟨S32768x32, .i32⟩
  | 32 => ⟨S32768x32, .i32⟩
  | 33 => ⟨S32768x32, .i32⟩
  | 34 => ⟨S_, .i32⟩
  | 35 => ⟨S32768, .i32⟩
  | 36 => ⟨S32768x1, .i32⟩
  | 37 => ⟨S32768x2, .f32⟩
  | 38 => ⟨S_, .f32⟩
  | 39 => ⟨S32768, .f32⟩
  | 40 => ⟨S_, .f32⟩
  | 41 => ⟨S32768, .f32⟩
  | 42 => ⟨S32768, .f32⟩
  | 43 => ⟨S32768x1, .f32⟩
  | 44 => ⟨S32768x2, .f32⟩
  | 45 => ⟨S32768x2, .f32⟩
  | 46 => ⟨S32768x2, .f32⟩
  | 47 => ⟨S_, .f32⟩
  | 48 => ⟨S32768, .f32⟩
  | 49 => ⟨S32768x1, .f32⟩
  | 50 => ⟨S32768x2, .f32⟩
  | 51 => ⟨S32768x2, .f32⟩
  | 52 => ⟨S32768x2, .f32⟩
  | 53 => ⟨S32768x2, .f32⟩
  | 54 => ⟨S128, .i32⟩
  | 55 => ⟨S1x128, .i32⟩
  | 56 => ⟨S32768x128, .i32⟩
  | 57 => ⟨S32768x128, .i32⟩
  | 58 => ⟨S32768x128, .i1⟩
  | 59 => ⟨S32768x1, .f32⟩
  | 60 => ⟨S1x128, .i32⟩
  | 61 => ⟨S32768x128, .i32⟩
  | 62 => ⟨S32768x128, .i32⟩
  | 63 => ⟨S32768x128, .i1⟩
  | 64 => ⟨S32768x1, .f32⟩
  | 65 => ⟨S_, .f32⟩
  | 66 => ⟨S_, .f32⟩
  | 67 => ⟨S32768x128, .f32⟩
  | 68 => ⟨S32768x128, .f32⟩
  | 69 => ⟨S32768x128, .f32⟩
  | 70 => ⟨S32768x128, .f32⟩
  | 71 => ⟨S32768x128, .f32⟩
  | 72 => ⟨S128x32768, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v49 : Ref sig .tc := ⟨.hbm, 73, rfl⟩
abbrev main_c_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_8 : Ref sig .tc := ⟨.hbm, 82, rfl⟩
abbrev main_v57 : Ref sig .tc := ⟨.hbm, 83, rfl⟩
abbrev main_cst_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_10 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_11 : Ref sig .tc := ⟨.hbm, 96, rfl⟩
abbrev main_call1_v0 : Ref sig .tc := ⟨.hbm, 97, rfl⟩
abbrev main_call1_v1 : Ref sig .tc := ⟨.hbm, 98, rfl⟩
abbrev main_v68 : Ref sig .tc := ⟨.hbm, 99, rfl⟩
abbrev main_cst_12 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_13 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_14 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_15 : Ref sig .tc := ⟨.hbm, 125, rfl⟩
abbrev main_call2_v0 : Ref sig .tc := ⟨.hbm, 126, rfl⟩
abbrev main_call2_v1 : Ref sig .tc := ⟨.hbm, 127, rfl⟩
abbrev main_v91 : Ref sig .tc := ⟨.hbm, 128, rfl⟩
abbrev main_v92 : Ref sig .tc := ⟨.hbm, 129, rfl⟩
abbrev main_cst_16 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_c_17 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_v97 : Ref sig .tc := ⟨.hbm, 139, rfl⟩
abbrev main_c_18 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_19 : Ref sig .tc := ⟨.hbm, 147, rfl⟩
abbrev main_call4_v0 : Ref sig .tc := ⟨.hbm, 148, rfl⟩
abbrev main_call4_v1 : Ref sig .tc := ⟨.hbm, 149, rfl⟩
abbrev main_v104 : Ref sig .tc := ⟨.hbm, 150, rfl⟩
abbrev main_v105 : Ref sig .tc := ⟨.hbm, 151, rfl⟩
abbrev main_cst_20 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_c_21 : Ref sig .tc := ⟨.hbm, 157, rfl⟩
abbrev main_call5_v0 : Ref sig .tc := ⟨.hbm, 158, rfl⟩
abbrev main_call5_v1 : Ref sig .tc := ⟨.hbm, 159, rfl⟩
abbrev main_call5_v2 : Ref sig .tc := ⟨.hbm, 160, rfl⟩
abbrev main_v110 : Ref sig .tc := ⟨.hbm, 161, rfl⟩
abbrev main_c_22 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_23 : Ref sig .tc := ⟨.hbm, 166, rfl⟩
abbrev main_v114 : Ref sig .tc := ⟨.hbm, 167, rfl⟩
abbrev main_cst_24 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_cst_25 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_cst_26 : Ref sig .tc := ⟨.hbm, 193, rfl⟩
abbrev main_call6_v0 : Ref sig .tc := ⟨.hbm, 194, rfl⟩
abbrev main_call6_v1 : Ref sig .tc := ⟨.hbm, 195, rfl⟩
abbrev main_call6_v2 : Ref sig .tc := ⟨.hbm, 196, rfl⟩
abbrev main_v138 : Ref sig .tc := ⟨.hbm, 197, rfl⟩
abbrev main_call7_v0 : Ref sig .tc := ⟨.hbm, 198, rfl⟩
abbrev main_v139 : Ref sig .tc := ⟨.hbm, 199, rfl⟩
abbrev main_v140 : Ref sig .tc := ⟨.hbm, 200, rfl⟩

abbrev nD : Nat := 1
abbrev τ : Topo := Topo.v7x

variable {F : FTy → Type} [FloatOps F]
-- ==== Proof.MoeI.Body.lean ====
module

public import proofs.«01_k».proof.Proof.Gen.KernelIdeal.Frame
public import proofs.«01_k».proof.Proof.Gen.KernelIdeal.Loops
public import Idealize.ShloMosaic.Lib.LoopRemainder
public import Idealize.ShloMosaic.Lib.VecWindow

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Zero offsets in two coordinates. -/
theorem off2 : (![0, 0] : Fin 2 → Nat) = fun _ => 0 := funext fun a => by fin_cases a <;> rfl

/-- Zero offsets in three coordinates. -/
theorem off3 : (![0, 0, 0] : Fin 3 → Nat) = fun _ => 0 := funext fun a => by fin_cases a <;> rfl

/-- One expert's row of a table of 128 rows: the row the grid point's second coordinate names. -/
def rowOf (i : grid0.Coords) (X : Vec F S128x1024 .f32) : Vec F S1x1024 .f32 :=
  VecWindow.window X (k0_off1 i) S1x1024.size (k0_off1_inb i)

/-- The count of the grid point's expert and tile: its word of the table of counts. -/
def wordOf {c : Dev nD} (i : grid0.Coords) (xt : TbBuf0 (F := F) c tbM0_0) : Elt F .i32 :=
  tbM0_0.view.readAt (Elt F) (Rect.unit (s := S1024) (k0_off2 i) S1.size (k0_off2_inb i)).toLoadRect xt
    (Shape.Idx.first (numel1_S1.symm ▸ Nat.one_pos))

/-- The accumulator after the passes before `k` over one expert's selected rows. -/
def passes (gate rank : Vec F S1x1024 .f32) (cnt : Elt F .i32) (x : Vec F S1024x1024 .bf16)
    (wg wu : Vec F S1x1024x512 .bf16) (wd : Vec F S1x512x1024 .bf16) (a : Vec F S1024x1024 .f32) :
    ℕ → Vec F S1024x1024 .f32
  | 0 => a
  | k + 1 =>
    if h : k < (k0_t1_loop cnt).trips then
      k0_pay1 (passes gate rank cnt x wg wu wd a k)
        (k0_pay4 gate rank (k0_pay8 gate) cnt (k0_pay9 (F := F)) 0#32 1#32 ⟨k, h⟩ x wg wu wd)
    else passes gate rank cnt x wg wu wd a k

/-- The accumulator after a grid point that found `a` there, the ranks being `r`. -/
def accAfter (i : grid0.Coords) (x0 : Vec F S1024x1024 .bf16) (x1 : Vec F S128x1024 .f32)
    (x4 x5 : Vec F S1x1024x512 .bf16) (x6 : Vec F S1x512x1024 .bf16) (cnt : Elt F .i32)
    (a : Vec F S1024x1024 .f32) (r : Vec F S128x1024 .f32) : Vec F S1024x1024 .f32 :=
  passes (rowOf i x1) (rowOf i r) cnt x0 x4 x5 x6 a (k0_t1_loop cnt).trips

/-- One pass stores one block: the accumulator it read plus the pass's contribution. -/
theorem trip_pieces (c : Dev nD) (i : grid0.Coords) (arg3 : Memref sig .tc .vmem S1024x1024 .bf16) (harg3 : arg3.IsWhole) (arg4 : Memref sig .tc .vmem S128x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S128x1024 .f32) (harg13 : arg13.IsWhole)
    (v4 v6 : Vec F S1x1024 .f32) (v8 : IVec S1x1024 1) (v12 : Elt F .i32) (hw : k0_chk1 v12) (v14 : FVec F S128x1024 .f32) (c0 : BitVec 32)
    (x0 : Vec F S1024x1024 .bf16) (x4 x5 : Vec F S1x1024x512 .bf16) (x6 : Vec F S1x512x1024 .bf16) (k : Fin (k0_t1_loop v12).trips)
    (f : BufTy.Contents (Elt F) arg12.view.ty) :
    tripL_k0_t1 (F := F) Variants.none c none i tbM0_0 htbM0_0 arg3 harg3 arg4 harg4 arg5 harg5 arg6 harg6 arg7 harg7 arg8 harg8 arg9 harg9 arg10 harg10 arg11 harg11 arg12 harg12 arg13 harg13 v4 v6 v8 v12 hw v14 c0
        (harg3.unread x0) (harg7.unread x4) (harg8.unread x5) (harg9.unread x6) k f
      = [⟨Rect.unit (s := S1024x1024) ![0, 0] S1024x1024.size inb_S1024x1024_S1024x1024_0_0,
          k0_pay1 (arg12.view.read (Elt F) f) (k0_pay4 v4 v6 v8 v12 v14 c0 1#32 k x0 x4 x5 x6)⟩] := by
  unfold tripL_k0_t1 trip_k0_t1
  have h12 := View.readAt_full arg12.view f inb_S1024x1024_S1024x1024_0_0
  have h3 := (View.readAt_full arg3.view (harg3.unread x0) inb_S1024x1024_S1024x1024_0_0).trans (harg3.read_unread x0)
  have h7 := (View.readAt_full arg7.view (harg7.unread x4) inb_S1x1024x512_S1x1024x512_0_0_0).trans (harg7.read_unread x4)
  have h8 := (View.readAt_full arg8.view (harg8.unread x5) inb_S1x1024x512_S1x1024x512_0_0_0).trans (harg8.read_unread x5)
  have h9 := (View.readAt_full arg9.view (harg9.unread x6) inb_S1x512x1024_S1x512x1024_0_0_0).trans (harg9.read_unread x6)
  rw [← h12]
  conv_rhs => rw [← h3, ← h7, ← h8, ← h9]
  rfl

/-- What the counted loop leaves in the accumulator, read back: the passes one after the other. -/
theorem read_pb (c : Dev nD) (i : grid0.Coords) (arg3 : Memref sig .tc .vmem S1024x1024 .bf16) (harg3 : arg3.IsWhole) (arg4 : Memref sig .tc .vmem S128x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S128x1024 .f32) (harg13 : arg13.IsWhole)
    (v4 v6 : Vec F S1x1024 .f32) (v12 : Elt F .i32) (hw : k0_chk1 v12)
    (x0 : Vec F S1024x1024 .bf16) (x4 x5 : Vec F S1x1024x512 .bf16) (x6 : Vec F S1x512x1024 .bf16)
    (G : BufTy.Contents (Elt F) arg12.view.ty) : ∀ n : ℕ, n ≤ (k0_t1_loop v12).trips →
    arg12.view.read (Elt F) (arg12.view.writes (Elt F) G
      (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 v4 v6 (k0_pay8 v4) v12 hw (k0_pay9 (F := F)) 0#32
        (harg3.unread x0) (harg7.unread x4) (harg8.unread x5) (harg9.unread x6) G n))
      = passes v4 v6 v12 x0 x4 x5 x6 (arg12.view.read (Elt F) G) n
  | 0, _ => rfl
  | n + 1, h => by
    have ih := read_pb c i arg3 harg3 arg4 harg4 arg5 harg5 arg6 harg6 arg7 harg7 arg8 harg8 arg9 harg9 arg10 harg10 arg11 harg11 arg12 harg12 arg13 harg13 v4 v6 v12 hw x0 x4 x5 x6 G n (Nat.le_of_succ_le h)
    have e := pb_k0_t1_succ (F := F) Variants.none c none i tbM0_0 htbM0_0 arg3 harg3 arg4 harg4 arg5 harg5 arg6 harg6 arg7 harg7 arg8 harg8 arg9 harg9 arg10 harg10 arg11 harg11 arg12 harg12 arg13 harg13 v4 v6 (k0_pay8 v4) v12 hw (k0_pay9 (F := F)) 0#32
      (harg3.unread x0) (harg7.unread x4) (harg8.unread x5) (harg9.unread x6) G ⟨n, h⟩
    dsimp only at e
    rw [e, trip_pieces, List.singleton_append, View.read_writes_full, ih, passes, dif_pos (show n < (k0_t1_loop v12).trips from h)]

/-- Equal blocks finish to equal rows. -/
theorem pay3_congr {x x' a a' : Vec F S1024x1024 .f32} {g g' : Vec F S1x1024 .f32} (hx : x = x') (ha : a = a') (hg : g = g') :
    k0_pay3 x a g = k0_pay3 x' a' g' := by rw [hx, ha, hg]

/-- Equal gates give equal ranks. -/
theorem pay7_congr {x x' : Vec F S128x1024 .f32} {g g' : Vec F S1024x1024 .bf16} (hx : x = x') (hg : g = g') :
    k0_pay7 x g = k0_pay7 x' g' := by rw [hx, hg]

/-- The loop's result as the grid point's accumulator, from what the point's loads read. -/
theorem acc_read (c : Dev nD) (i : grid0.Coords) (arg3 : Memref sig .tc .vmem S1024x1024 .bf16) (harg3 : arg3.IsWhole) (arg4 : Memref sig .tc .vmem S128x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S128x1024 .f32) (harg13 : arg13.IsWhole)
    {v4 v6 : Vec F S1x1024 .f32} {v12 : Elt F .i32} {hw : k0_chk1 v12}
    (x0 : Vec F S1024x1024 .bf16) (x1 : Vec F S128x1024 .f32) (x4 x5 : Vec F S1x1024x512 .bf16) (x6 : Vec F S1x512x1024 .bf16)
    (cnt : Elt F .i32) (a : Vec F S1024x1024 .f32) (r : Vec F S128x1024 .f32)
    (h4 : v4 = rowOf i x1) (h6 : v6 = rowOf i r) (h12 : v12 = cnt)
    (G : BufTy.Contents (Elt F) arg12.view.ty) (hG : arg12.view.read (Elt F) G = a) :
    arg12.view.read (Elt F) (arg12.view.writes (Elt F) G
      (pb_k0_t1 (F := F) Variants.none c none i tbM0_0 htbM0_0 arg3 harg3 arg4 harg4 arg5 harg5 arg6 harg6 arg7 harg7 arg8 harg8 arg9 harg9 arg10 harg10 arg11 harg11 arg12 harg12 arg13 harg13 v4 v6 (k0_pay8 v4) v12 hw (k0_pay9 (F := F)) 0#32
        (harg3.unread x0) (harg7.unread x4) (harg8.unread x5) (harg9.unread x6) G (k0_t1_loop v12).trips))
      = accAfter i x0 x1 x4 x5 x6 cnt a r := by
  subst h4 h6 h12 hG
  exact read_pb c i arg3 harg3 arg4 harg4 arg5 harg5 arg6 harg6 arg7 harg7 arg8 harg8 arg9 harg9 arg10 harg10 arg11 harg11 arg12 harg12 arg13 harg13 _ _ _ hw x0 x4 x5 x6 G _ le_rfl

/-- A load of the grid point's row of a 128-row memref. -/
theorem read_row (i : grid0.Coords) (M : Memref sig .tc .vmem S128x1024 .f32) (f : BufTy.Contents (Elt F) M.view.ty)
    (X : Vec F S128x1024 .f32) (h : M.view.read (Elt F) f = X) :
    M.view.readAt (Elt F) (Rect.unit (s := S128x1024) (k0_off1 i) S1x1024.size (k0_off1_inb i)).toLoadRect f = rowOf i X := by
  subst h; exact View.readAt_unit _ _ _ rfl (k0_off1_inb i)

set_option maxHeartbeats 4000000 in
/-- An expert that is neither the first nor the last of its tile. -/
theorem run_mid (c : Dev nD) (i : grid0.Coords) (arg3 : Memref sig .tc .vmem S1024x1024 .bf16) (harg3 : arg3.IsWhole) (arg4 : Memref sig .tc .vmem S128x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S128x1024 .f32) (harg13 : arg13.IsWhole)
    (hc0 : ¬Scalar.cmpi .ne (Scalar.extui (Scalar.cmpi .eq (BitVec.ofNat 32 (i 1).val) 0#32) : BitVec 32) 0#32 = 1#1) (hc1 : ¬k0_cond2 i = 1#1)
    (x0 : Vec F S1024x1024 .bf16) (x1 : Vec F S128x1024 .f32) (x2 : Vec F S1024x1024 .f32) (x3 : Vec F S1024x1024 .bf16) (x4 : Vec F S1x1024x512 .bf16) (x5 : Vec F S1x1024x512 .bf16) (x6 : Vec F S1x512x1024 .bf16) (x7 : Vec F S1x1024 .f32) (x8 : Vec F S1024x1024 .f32) (a : Vec F S1024x1024 .f32) (r : Vec F S128x1024 .f32)
    (xt : TbBuf0 (F := F) c tbM0_0) (hw : k0_chk1 (wordOf i xt)) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ owns (c : Thread nD τ) arg9 fullShare x6
        ∗ owns (c : Thread nD τ) arg10 fullShare x7
        ∗ owns (c : Thread nD τ) arg11 fullShare x8
        ∗ owns (c : Thread nD τ) arg12 fullShare a
        ∗ owns (c : Thread nD τ) arg13 fullShare r
        ∗ tbPt0 c tbM0_0 xt)
      ⊢ wp frame (wpE (defs₀ (F := F)) Variants.none c none) Set.univ
          (cc0_moe_final (F := F) i tbM0_0 htbM0_0 arg3 harg3 arg4 harg4 arg5 harg5 arg6 harg6 arg7 harg7 arg8 harg8 arg9 harg9 arg10 harg10 arg11 harg11 arg12 harg12 arg13 harg13)
          (fun _ => iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ owns (c : Thread nD τ) arg9 fullShare x6
        ∗ owns (c : Thread nD τ) arg10 fullShare x7
        ∗ owns (c : Thread nD τ) arg11 fullShare x8
        ∗ owns (c : Thread nD τ) arg12 fullShare (accAfter i x0 x1 x4 x5 x6 (wordOf i xt) a r)
        ∗ owns (c : Thread nD τ) arg13 fullShare r
        ∗ tbPt0 c tbM0_0 xt)) := by
  simp only [cc0_moe_final_eq_skeleton]; unfold cc0_moe_final_skel; simp only [k0_part3_eq_skeleton]
  unfold owns wordOf at *
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, HT⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  sl_exec (disch := first | sl_exact hc0 | sl_exact hc1 | sl_exact hw)
  sl_step
  isplitl [H3]
  · iexists _; isplitr
    rotate_left
    · iexact H3
    · ipureintro
      exact harg3.read_unread _
  isplitl [H4]
  · iexists _; isplitr
    rotate_left
    · iexact H4
    · ipureintro
      exact harg4.read_unread _
  isplitl [H5]
  · iexists _; isplitr
    rotate_left
    · iexact H5
    · ipureintro
      exact harg5.read_unread _
  isplitl [H6]
  · iexists _; isplitr
    rotate_left
    · iexact H6
    · ipureintro
      exact harg6.read_unread _
  isplitl [H7]
  · iexists _; isplitr
    rotate_left
    · iexact H7
    · ipureintro
      exact harg7.read_unread _
  isplitl [H8]
  · iexists _; isplitr
    rotate_left
    · iexact H8
    · ipureintro
      exact harg8.read_unread _
  isplitl [H9]
  · iexists _; isplitr
    rotate_left
    · iexact H9
    · ipureintro
      exact harg9.read_unread _
  isplitl [H10]
  · iexists _; isplitr
    rotate_left
    · iexact H10
    · ipureintro
      exact harg10.read_unread _
  isplitl [H11]
  · iexists _; isplitr
    rotate_left
    · iexact H11
    · ipureintro
      exact harg11.read_unread _
  isplitl [H12]
  · iexists _; isplitr
    rotate_left
    · iexact H12
    · ipureintro
      exact acc_read c i arg3 harg3 arg4 harg4 arg5 harg5 arg6 harg6 arg7 harg7 arg8 harg8 arg9 harg9 arg10 harg10 arg11 harg11 arg12 harg12 arg13 harg13 x0 x1 x4 x5 x6 _ a r (read_row i arg4 _ _ (harg4.read_unread _)) (read_row i arg13 _ _ (harg13.read_unread _)) rfl _ (harg12.read_unread _)
  isplitl [H13]
  · iexists _; isplitr
    rotate_left
    · iexact H13
    · ipureintro
      exact harg13.read_unread _
  iexact HT

set_option maxHeartbeats 4000000 in
/-- The first expert of a tile: the accumulator and the ranks are set up first. -/
theorem run_first (c : Dev nD) (i : grid0.Coords) (arg3 : Memref sig .tc .vmem S1024x1024 .bf16) (harg3 : arg3.IsWhole) (arg4 : Memref sig .tc .vmem S128x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S128x1024 .f32) (harg13 : arg13.IsWhole)
    (hc0 : Scalar.cmpi .ne (Scalar.extui (Scalar.cmpi .eq (BitVec.ofNat 32 (i 1).val) 0#32) : BitVec 32) 0#32 = 1#1) (hc1 : ¬k0_cond2 i = 1#1)
    (x0 : Vec F S1024x1024 .bf16) (x1 : Vec F S128x1024 .f32) (x2 : Vec F S1024x1024 .f32) (x3 : Vec F S1024x1024 .bf16) (x4 : Vec F S1x1024x512 .bf16) (x5 : Vec F S1x1024x512 .bf16) (x6 : Vec F S1x512x1024 .bf16) (x7 : Vec F S1x1024 .f32) (x8 : Vec F S1024x1024 .f32) (a : Vec F S1024x1024 .f32) (r : Vec F S128x1024 .f32)
    (xt : TbBuf0 (F := F) c tbM0_0) (hw : k0_chk1 (wordOf i xt)) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ owns (c : Thread nD τ) arg9 fullShare x6
        ∗ owns (c : Thread nD τ) arg10 fullShare x7
        ∗ owns (c : Thread nD τ) arg11 fullShare x8
        ∗ owns (c : Thread nD τ) arg12 fullShare a
        ∗ owns (c : Thread nD τ) arg13 fullShare r
        ∗ tbPt0 c tbM0_0 xt)
      ⊢ wp frame (wpE (defs₀ (F := F)) Variants.none c none) Set.univ
          (cc0_moe_final (F := F) i tbM0_0 htbM0_0 arg3 harg3 arg4 harg4 arg5 harg5 arg6 harg6 arg7 harg7 arg8 harg8 arg9 harg9 arg10 harg10 arg11 harg11 arg12 harg12 arg13 harg13)
          (fun _ => iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ owns (c : Thread nD τ) arg9 fullShare x6
        ∗ owns (c : Thread nD τ) arg10 fullShare x7
        ∗ owns (c : Thread nD τ) arg11 fullShare x8
        ∗ owns (c : Thread nD τ) arg12 fullShare (accAfter i x0 x1 x4 x5 x6 (wordOf i xt) (k0_pay6 (F := F)) (k0_pay7 x1 x3))
        ∗ owns (c : Thread nD τ) arg13 fullShare (k0_pay7 x1 x3)
        ∗ tbPt0 c tbM0_0 xt)) := by
  simp only [cc0_moe_final_eq_skeleton]; unfold cc0_moe_final_skel; simp only [k0_part3_eq_skeleton]
  unfold owns wordOf at *
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, HT⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  sl_exec (disch := first | sl_exact hc0 | sl_exact hc1 | sl_exact hw)
  sl_step
  isplitl [H3]
  · iexists _; isplitr
    rotate_left
    · iexact H3
    · ipureintro
      exact harg3.read_unread _
  isplitl [H4]
  · iexists _; isplitr
    rotate_left
    · iexact H4
    · ipureintro
      exact harg4.read_unread _
  isplitl [H5]
  · iexists _; isplitr
    rotate_left
    · iexact H5
    · ipureintro
      exact harg5.read_unread _
  isplitl [H6]
  · iexists _; isplitr
    rotate_left
    · iexact H6
    · ipureintro
      exact harg6.read_unread _
  isplitl [H7]
  · iexists _; isplitr
    rotate_left
    · iexact H7
    · ipureintro
      exact harg7.read_unread _
  isplitl [H8]
  · iexists _; isplitr
    rotate_left
    · iexact H8
    · ipureintro
      exact harg8.read_unread _
  isplitl [H9]
  · iexists _; isplitr
    rotate_left
    · iexact H9
    · ipureintro
      exact harg9.read_unread _
  isplitl [H10]
  · iexists _; isplitr
    rotate_left
    · iexact H10
    · ipureintro
      exact harg10.read_unread _
  isplitl [H11]
  · iexists _; isplitr
    rotate_left
    · iexact H11
    · ipureintro
      exact harg11.read_unread _
  isplitl [H12]
  · iexists _; isplitr
    rotate_left
    · iexact H12
    · ipureintro
      rw [View.writes_append]
      exact acc_read c i arg3 harg3 arg4 harg4 arg5 harg5 arg6 harg6 arg7 harg7 arg8 harg8 arg9 harg9 arg10 harg10 arg11 harg11 arg12 harg12 arg13 harg13 x0 x1 x4 x5 x6 _ _ _ (read_row i arg4 _ _ (harg4.read_unread _))
        (read_row i arg13 _ _ ((View.read_writes_full arg13.view _ inb_S128x1024_S128x1024_0_0 _ _).trans
          (pay7_congr ((View.readAt_full arg4.view _ inb_S128x1024_S128x1024_0_0).trans (harg4.read_unread _))
            ((View.readAt_full arg6.view _ inb_S1024x1024_S1024x1024_0_0).trans (harg6.read_unread _))))) rfl _
        (View.read_writes_full arg12.view _ inb_S1024x1024_S1024x1024_0_0 _ _)
  isplitl [H13]
  · iexists _; isplitr
    rotate_left
    · iexact H13
    · ipureintro
      refine (View.read_writes_full arg13.view _ inb_S128x1024_S128x1024_0_0 _ _).trans ?_
      exact pay7_congr ((View.readAt_full arg4.view _ inb_S128x1024_S128x1024_0_0).trans (harg4.read_unread _))
        ((View.readAt_full arg6.view _ inb_S1024x1024_S1024x1024_0_0).trans (harg6.read_unread _))
  iexact HT

set_option maxHeartbeats 4000000 in
/-- The last expert of a tile: the finished rows are stored. -/
theorem run_last (c : Dev nD) (i : grid0.Coords) (arg3 : Memref sig .tc .vmem S1024x1024 .bf16) (harg3 : arg3.IsWhole) (arg4 : Memref sig .tc .vmem S128x1024 .f32) (harg4 : arg4.IsWhole) (arg5 : Memref sig .tc .vmem S1024x1024 .f32) (harg5 : arg5.IsWhole) (arg6 : Memref sig .tc .vmem S1024x1024 .bf16) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x512x1024 .bf16) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S128x1024 .f32) (harg13 : arg13.IsWhole)
    (hc0 : ¬Scalar.cmpi .ne (Scalar.extui (Scalar.cmpi .eq (BitVec.ofNat 32 (i 1).val) 0#32) : BitVec 32) 0#32 = 1#1) (hc1 : k0_cond2 i = 1#1)
    (x0 : Vec F S1024x1024 .bf16) (x1 : Vec F S128x1024 .f32) (x2 : Vec F S1024x1024 .f32) (x3 : Vec F S1024x1024 .bf16) (x4 : Vec F S1x1024x512 .bf16) (x5 : Vec F S1x1024x512 .bf16) (x6 : Vec F S1x512x1024 .bf16) (x7 : Vec F S1x1024 .f32) (x8 : Vec F S1024x1024 .f32) (a : Vec F S1024x1024 .f32) (r : Vec F S128x1024 .f32)
    (xt : TbBuf0 (F := F) c tbM0_0) (hw : k0_chk1 (wordOf i xt)) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ owns (c : Thread nD τ) arg9 fullShare x6
        ∗ owns (c : Thread nD τ) arg10 fullShare x7
        ∗ owns (c : Thread nD τ) arg11 fullShare x8
        ∗ owns (c : Thread nD τ) arg12 fullShare a
        ∗ owns (c : Thread nD τ) arg13 fullShare r
        ∗ tbPt0 c tbM0_0 xt)
      ⊢ wp frame (wpE (defs₀ (F := F)) Variants.none c none) Set.univ
          (cc0_moe_final (F := F) i tbM0_0 htbM0_0 arg3 harg3 arg4 harg4 arg5 harg5 arg6 harg6 arg7 harg7 arg8 harg8 arg9 harg9 arg10 harg10 arg11 harg11 arg12 harg12 arg13 harg13)
          (fun _ => iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare x5
        ∗ owns (c : Thread nD τ) arg9 fullShare x6
        ∗ owns (c : Thread nD τ) arg10 fullShare x7
        ∗ owns (c : Thread nD τ) arg11 fullShare (k0_pay3 x2 (accAfter i x0 x1 x4 x5 x6 (wordOf i xt) a r) x7)
        ∗ owns (c : Thread nD τ) arg12 fullShare (accAfter i x0 x1 x4 x5 x6 (wordOf i xt) a r)
        ∗ owns (c : Thread nD τ) arg13 fullShare r
        ∗ tbPt0 c tbM0_0 xt)) := by
  simp only [cc0_moe_final_eq_skeleton]; unfold cc0_moe_final_skel; simp only [k0_part3_eq_skeleton]
  unfold owns wordOf at *
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, HT⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  sl_exec (disch := first | sl_exact hc0 | sl_exact hc1 | sl_exact hw)
  sl_step
  isplitl [H3]
  · iexists _; isplitr
    rotate_left
    · iexact H3
    · ipureintro
      exact harg3.read_unread _
  isplitl [H4]
  · iexists _; isplitr
    rotate_left
    · iexact H4
    · ipureintro
      exact harg4.read_unread _
  isplitl [H5]
  · iexists _; isplitr
    rotate_left
    · iexact H5
    · ipureintro
      exact harg5.read_unread _
  isplitl [H6]
  · iexists _; isplitr
    rotate_left
    · iexact H6
    · ipureintro
      exact harg6.read_unread _
  isplitl [H7]
  · iexists _; isplitr
    rotate_left
    · iexact H7
    · ipureintro
      exact harg7.read_unread _
  isplitl [H8]
  · iexists _; isplitr
    rotate_left
    · iexact H8
    · ipureintro
      exact harg8.read_unread _
  isplitl [H9]
  · iexists _; isplitr
    rotate_left
    · iexact H9
    · ipureintro
      exact harg9.read_unread _
  isplitl [H10]
  · iexists _; isplitr
    rotate_left
    · iexact H10
    · ipureintro
      exact harg10.read_unread _
  isplitl [H11]
  · iexists _; isplitr
    rotate_left
    · iexact H11
    · ipureintro
      refine (View.read_writes_full arg11.view _ inb_S1024x1024_S1024x1024_0_0 _ _).trans ?_
      exact pay3_congr ((View.readAt_full arg5.view _ inb_S1024x1024_S1024x1024_0_0).trans (harg5.read_unread _))
        ((View.readAt_full arg12.view _ inb_S1024x1024_S1024x1024_0_0).trans
          (acc_read c i arg3 harg3 arg4 harg4 arg5 harg5 arg6 harg6 arg7 harg7 arg8 harg8 arg9 harg9 arg10 harg10 arg11 harg11 arg12 harg12 arg13 harg13 x0 x1 x4 x5 x6 _ a r (read_row i arg4 _ _ (harg4.read_unread _)) (read_row i arg13 _ _ (harg13.read_unread _)) rfl _ (harg12.read_unread _)))
        ((View.readAt_full arg10.view _ inb_S1x1024_S1x1024_0_0).trans (harg10.read_unread _))
  isplitl [H12]
  · iexists _; isplitr
    rotate_left
    · iexact H12
    · ipureintro
      exact acc_read c i arg3 harg3 arg4 harg4 arg5 harg5 arg6 harg6 arg7 harg7 arg8 harg8 arg9 harg9 arg10 harg10 arg11 harg11 arg12 harg12 arg13 harg13 x0 x1 x4 x5 x6 _ a r (read_row i arg4 _ _ (harg4.read_unread _)) (read_row i arg13 _ _ (harg13.read_unread _)) rfl _ (harg12.read_unread _)
  isplitl [H13]
  · iexists _; isplitr
    rotate_left
    · iexact H13
    · ipureintro
      exact harg13.read_unread _
  iexact HT

end Cert.KernelIdeal.Moe

end
-- ==== Proof.MoeI.Run.lean ====
module

public import proofs.«01_k».proof.Proof.MoeI.Body

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Grid points -/

/-- The first conditional runs exactly at the first expert. -/
theorem hcond0 (i : grid0.Coords) : Scalar.cmpi .ne (Scalar.extui (Scalar.cmpi .eq (BitVec.ofNat 32 (i 1).val) 0#32) : BitVec 32) 0#32 = 1#1 ↔ (i 1).val = 0 := by
  have h : ∀ e : Fin 32, (Scalar.cmpi .ne (Scalar.extui (Scalar.cmpi .eq (BitVec.ofNat 32 e.val) 0#32) : BitVec 32) 0#32 = 1#1) ↔ e.val = 0 := by decide
  exact h (i 1)

/-- The last conditional runs exactly at the last expert. -/
theorem hcond1 (i : grid0.Coords) : k0_cond2 i = 1#1 ↔ (i 1).val = 31 := by
  have h : ∀ e : Fin 32, (Scalar.cmpi .ne (Scalar.extui (Scalar.cmpi .eq (BitVec.ofNat 32 e.val) 31#32) : BitVec 32) 0#32 = 1#1) ↔ e.val = 31 := by decide
  exact h (i 1)

/-- The expert of point `t` is `t` mod 32. -/
theorem coords1 : ∀ t : Fin grid0.N, (grid0.coords t 1).val = t.val % 32 := by decide +kernel

/-- The tile of point `t` is `t / 32`. -/
theorem coords0 : ∀ t : Fin grid0.N, (grid0.coords t 0).val = t.val / 32 := by decide +kernel

/-! ## The values along the grid -/

/-- Window 0's staging buffer at a point. -/
abbrev ms0 (hO : Ok m) (t : Fin (cfgM m hO).N) : Memref sig .tc .vmem S1024x1024 .bf16 := spec0_0.stage ((cfgM m hO).slots t 0)
/-- It is a whole buffer. -/
abbrev hs0 (hO : Ok m) (t : Fin (cfgM m hO).N) : (ms0 m hO t).IsWhole := hstage0_0 (((cfgM m hO).slots t 0).cast nbuf0_0)
/-- Window 1's staging buffer at a point. -/
abbrev ms1 (hO : Ok m) (t : Fin (cfgM m hO).N) : Memref sig .tc .vmem S128x1024 .f32 := spec0_1.stage ((cfgM m hO).slots t 1)
/-- It is a whole buffer. -/
abbrev hs1 (hO : Ok m) (t : Fin (cfgM m hO).N) : (ms1 m hO t).IsWhole := hstage0_1 (((cfgM m hO).slots t 1).cast nbuf0_1)
/-- Window 2's staging buffer at a point. -/
abbrev ms2 (hO : Ok m) (t : Fin (cfgM m hO).N) : Memref sig .tc .vmem S1024x1024 .f32 := spec0_2.stage ((cfgM m hO).slots t 2)
/-- It is a whole buffer. -/
abbrev hs2 (hO : Ok m) (t : Fin (cfgM m hO).N) : (ms2 m hO t).IsWhole := hstage0_2 (((cfgM m hO).slots t 2).cast nbuf0_2)
/-- Window 3's staging buffer at a point. -/
abbrev ms3 (hO : Ok m) (t : Fin (cfgM m hO).N) : Memref sig .tc .vmem S1024x1024 .bf16 := spec0_3.stage ((cfgM m hO).slots t 3)
/-- It is a whole buffer. -/
abbrev hs3 (hO : Ok m) (t : Fin (cfgM m hO).N) : (ms3 m hO t).IsWhole := hstage0_3 (((cfgM m hO).slots t 3).cast nbuf0_3)
/-- Window 4's staging buffer at a point. -/
abbrev ms4 (hO : Ok m) (t : Fin (cfgM m hO).N) : Memref sig .tc .vmem S1x1024x512 .bf16 := spec0_4.stage ((cfgM m hO).slots t 4)
/-- It is a whole buffer. -/
abbrev hs4 (hO : Ok m) (t : Fin (cfgM m hO).N) : (ms4 m hO t).IsWhole := hstage0_4 (((cfgM m hO).slots t 4).cast nbuf0_4)
/-- Window 5's staging buffer at a point. -/
abbrev ms5 (hO : Ok m) (t : Fin (cfgM m hO).N) : Memref sig .tc .vmem S1x1024x512 .bf16 := spec0_5.stage ((cfgM m hO).slots t 5)
/-- It is a whole buffer. -/
abbrev hs5 (hO : Ok m) (t : Fin (cfgM m hO).N) : (ms5 m hO t).IsWhole := hstage0_5 (((cfgM m hO).slots t 5).cast nbuf0_5)
/-- Window 6's staging buffer at a point. -/
abbrev ms6 (hO : Ok m) (t : Fin (cfgM m hO).N) : Memref sig .tc .vmem S1x512x1024 .bf16 := spec0_6.stage ((cfgM m hO).slots t 6)
/-- It is a whole buffer. -/
abbrev hs6 (hO : Ok m) (t : Fin (cfgM m hO).N) : (ms6 m hO t).IsWhole := hstage0_6 (((cfgM m hO).slots t 6).cast nbuf0_6)
/-- Window 7's staging buffer at a point. -/
abbrev ms7 (hO : Ok m) (t : Fin (cfgM m hO).N) : Memref sig .tc .vmem S1x1024 .f32 := spec0_7.stage ((cfgM m hO).slots t 7)
/-- It is a whole buffer. -/
abbrev hs7 (hO : Ok m) (t : Fin (cfgM m hO).N) : (ms7 m hO t).IsWhole := hstage0_7 (((cfgM m hO).slots t 7).cast nbuf0_7)
/-- Window 8's staging buffer at a point. -/
abbrev ms8 (hO : Ok m) (t : Fin (cfgM m hO).N) : Memref sig .tc .vmem S1024x1024 .f32 := spec0_8.stage ((cfgM m hO).slots t 8)
/-- It is a whole buffer. -/
abbrev hs8 (hO : Ok m) (t : Fin (cfgM m hO).N) : (ms8 m hO t).IsWhole := hstage0_8 (((cfgM m hO).slots t 8).cast nbuf0_8)
/-- Window 0's block at a point. -/
abbrev blk0 (hO : Ok m) (c : Dev nD) (t : Fin (cfgM m hO).N) : Vec F S1024x1024 .bf16 := iblk m hO c 0 t
/-- Window 1's block at a point. -/
abbrev blk1 (hO : Ok m) (c : Dev nD) (t : Fin (cfgM m hO).N) : Vec F S128x1024 .f32 := iblk m hO c 1 t
/-- Window 2's block at a point. -/
abbrev blk2 (hO : Ok m) (c : Dev nD) (t : Fin (cfgM m hO).N) : Vec F S1024x1024 .f32 := iblk m hO c 2 t
/-- Window 3's block at a point. -/
abbrev blk3 (hO : Ok m) (c : Dev nD) (t : Fin (cfgM m hO).N) : Vec F S1024x1024 .bf16 := iblk m hO c 3 t
/-- Window 4's block at a point. -/
abbrev blk4 (hO : Ok m) (c : Dev nD) (t : Fin (cfgM m hO).N) : Vec F S1x1024x512 .bf16 := iblk m hO c 4 t
/-- Window 5's block at a point. -/
abbrev blk5 (hO : Ok m) (c : Dev nD) (t : Fin (cfgM m hO).N) : Vec F S1x1024x512 .bf16 := iblk m hO c 5 t
/-- Window 6's block at a point. -/
abbrev blk6 (hO : Ok m) (c : Dev nD) (t : Fin (cfgM m hO).N) : Vec F S1x512x1024 .bf16 := iblk m hO c 6 t
/-- Window 7's block at a point. -/
abbrev blk7 (hO : Ok m) (c : Dev nD) (t : Fin (cfgM m hO).N) : Vec F S1x1024 .f32 := iblk m hO c 7 t

/-- The accumulator and the ranks as whole buffers. -/
abbrev scM0 : Memref sig .tc .vmem S1024x1024 .f32 := Memref.whole cc0_scratch0
/-- The ranks' buffer. -/
abbrev scM1 : Memref sig .tc .vmem S128x1024 .f32 := Memref.whole cc0_scratch1

/-- The count of point `t`'s expert in its tile. -/
def cntAt (hO : Ok m) (c : Dev nD) (t : Fin (cfgM m hO).N) : Elt F .i32 := wordOf (c := c) (grid0.coords t) (tbl m 0)

/-- The loop bounds of every point are in range. -/
abbrev Hyps (hO : Ok m) : Prop := ∀ (c : Dev nD) (t : Fin (cfgM m hO).N), k0_chk1 (cntAt m hO c t)

/-- What the passes of point `t` start from: zeros at a tile's first expert. -/
def accIn (hO : Ok m) (t : Fin (cfgM m hO).N) (a : Vec F S1024x1024 .f32) : Vec F S1024x1024 .f32 :=
  if (grid0.coords t 1).val = 0 then k0_pay6 (F := F) else a

/-- The ranks at point `t`: computed at a tile's first expert, kept after. -/
def rankAfter (hO : Ok m) (c : Dev nD) (t : Fin (cfgM m hO).N) (r : Vec F S128x1024 .f32) : Vec F S128x1024 .f32 :=
  if (grid0.coords t 1).val = 0 then k0_pay7 (blk1 m hO c t) (blk3 m hO c t) else r

/-- The accumulator and ranks a point leaves. -/
def step (hO : Ok m) (c : Dev nD) (t : Fin (cfgM m hO).N) (s : Vec F S1024x1024 .f32 × Vec F S128x1024 .f32) :
    Vec F S1024x1024 .f32 × Vec F S128x1024 .f32 :=
  (accAfter (grid0.coords t) (blk0 m hO c t) (blk1 m hO c t) (blk4 m hO c t) (blk5 m hO c t) (blk6 m hO c t) (cntAt m hO c t)
    (accIn m hO t s.1) (rankAfter m hO c t s.2), rankAfter m hO c t s.2)

/-- The accumulator and ranks after point `n`. -/
def sv (hO : Ok m) (c : Dev nD) : (n : ℕ) → n < (cfgM m hO).N → Vec F S1024x1024 .f32 × Vec F S128x1024 .f32
  | 0, h => step m hO c ⟨0, h⟩ (k0_pay6 (F := F), k0_pay7 (blk1 m hO c ⟨0, h⟩) (blk3 m hO c ⟨0, h⟩))
  | n + 1, h => step m hO c ⟨n + 1, h⟩ (sv hO c n (Nat.lt_of_succ_lt h))

/-- The finished rows, as the last expert of a tile stores them. -/
def outAt (hO : Ok m) (c : Dev nD) (t : Fin (cfgM m hO).N) : Vec F S1024x1024 .f32 :=
  k0_pay3 (blk2 m hO c t) (sv m hO c t.val t.isLt).1 (blk7 m hO c t)

/-! ## The invariant and the proof data -/

/-- The region's invariant with the two scratch buffers named. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [owns_whole]; try rfl

/-- The invariant between points: the two scratch buffers at what the point before left. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0 fullShare (sv m hO c n hn).1 ∗ owns (c : Thread nD τ) scM1 fullShare (sv m hO c n hn).2) ∗ (∃ r, prngReg c r)) ∗ Pipeline.ΦT pre0 (tbl m) c)

/-- What a point finds: an accumulator and ranks its step takes to the point's values. -/
theorem Phi_open (hO : Ok m) (c : Dev nD) (t : Fin (cfgM m hO).N) :
    PhiS m hO c t.val (Nat.le_of_lt t.isLt) ⊢ iprop(∃ a r, ⌜step m hO c t (a, r) = sv m hO c t.val t.isLt⌝
      ∗ iprop(iprop(owns (c : Thread nD τ) scM0 fullShare a ∗ owns (c : Thread nD τ) scM1 fullShare r) ∗ (∃ r, prngReg c r)) ∗ Pipeline.ΦT pre0 (tbl m) c) := by
  obtain ⟨n, hn⟩ := t
  cases n with
  | zero =>
    have h0 : (grid0.coords ⟨0, hn⟩ 1).val = 0 := coords1 ⟨0, hn⟩
    show iprop(Pipeline.ΦA spec0 c ∗ Pipeline.ΦT pre0 (tbl m) c) ⊢ _
    rw [PhiA0_eq]
    iintro ⟨⟨⟨⟨%a, HA⟩, ⟨%r, HR⟩⟩, Hg⟩, HT⟩
    iexists a, r
    isplitr
    · ipureintro
      show step m hO c ⟨0, hn⟩ (a, r) = step m hO c ⟨0, hn⟩ _
      unfold step; simp only [accIn, rankAfter, h0, ↓reduceIte]
    isplitr [HT]
    · isplitr [Hg]
      · isplitl [HA]; · iexact HA
        iexact HR
      · iexact Hg
    · iexact HT
  | succ n =>
    show iprop(iprop(iprop(owns (c : Thread nD τ) scM0 fullShare (sv m hO c n _).1 ∗ owns (c : Thread nD τ) scM1 fullShare (sv m hO c n _).2) ∗ (∃ r, prngReg c r)) ∗ Pipeline.ΦT pre0 (tbl m) c) ⊢ _
    iintro ⟨⟨⟨HA, HR⟩, Hg⟩, HT⟩
    iexists _, _
    isplitr
    rotate_left
    · isplitr [HT]
      · isplitr [Hg]
        · isplitl [HA]; · iexact HA
          iexact HR
        · iexact Hg
      · iexact HT
    · ipureintro; rfl

/-- At a tile's first expert the values do not depend on what was there. -/
theorem open_first (hO : Ok m) (c : Dev nD) (t : Fin (cfgM m hO).N) (h0 : (grid0.coords t 1).val = 0) :
    PhiS m hO c t.val (Nat.le_of_lt t.isLt) ⊢ iprop(∃ a r, ⌜sv m hO c t.val t.isLt = (accAfter (grid0.coords t) (blk0 m hO c t) (blk1 m hO c t) (blk4 m hO c t) (blk5 m hO c t) (blk6 m hO c t) (cntAt m hO c t) (k0_pay6 (F := F)) (k0_pay7 (blk1 m hO c t) (blk3 m hO c t)), k0_pay7 (blk1 m hO c t) (blk3 m hO c t))⌝
      ∗ iprop(iprop(owns (c : Thread nD τ) scM0 fullShare a ∗ owns (c : Thread nD τ) scM1 fullShare r) ∗ (∃ r, prngReg c r)) ∗ Pipeline.ΦT pre0 (tbl m) c) := by
  refine (Phi_open m hO c t).trans ?_
  iintro ⟨%a, %r, %hs, H⟩
  iexists a, r
  isplitr
  · ipureintro; rw [← hs]; unfold step; simp only [accIn, rankAfter, h0, ↓reduceIte]
  · iexact H

/-- Elsewhere they continue it. -/
theorem open_rest (hO : Ok m) (c : Dev nD) (t : Fin (cfgM m hO).N) (h0 : ¬(grid0.coords t 1).val = 0) :
    PhiS m hO c t.val (Nat.le_of_lt t.isLt) ⊢ iprop(∃ a r, ⌜sv m hO c t.val t.isLt = (accAfter (grid0.coords t) (blk0 m hO c t) (blk1 m hO c t) (blk4 m hO c t) (blk5 m hO c t) (blk6 m hO c t) (cntAt m hO c t) a r, r)⌝
      ∗ iprop(iprop(owns (c : Thread nD τ) scM0 fullShare a ∗ owns (c : Thread nD τ) scM1 fullShare r) ∗ (∃ r, prngReg c r)) ∗ Pipeline.ΦT pre0 (tbl m) c) := by
  refine (Phi_open m hO c t).trans ?_
  iintro ⟨%a, %r, %hs, H⟩
  iexists a, r
  isplitr
  · ipureintro; rw [← hs]; unfold step; simp only [accIn, rankAfter, h0, ↓reduceIte]
  · iexact H

/-- The proof data of the one pipeline: inputs kept, the finished rows stored, the scratch tracked. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => outAt m hO c t
    | ⟨_ + 9, h⟩ => absurd h (Nat.not_lt.2 (Nat.le_add_left _ _))
  Φ t := PhiS m hO c t.val (Nat.le_of_lt_succ t.isLt)
  q _ := fullShare
  owed _ := 0

/-- The arrays are those the region finds. -/
theorem A_eq (hO : Ok m) (hH : Hyps m hO) (c : Dev nD) (w : Fin (cfgM m hO).W) : (dats m hO hH 0 c).A w = V m c (Pipeline.arrRef spec0 w) := by
  dsimp only [dats]

/-- The invariant at a point's start. -/
theorem PhiS_castSucc (hO : Ok m) (hH : Hyps m hO) (c : Dev nD) (t : Fin (cfgM m hO).N) :
    (dats m hO hH 0 c).Φ t.castSucc = PhiS m hO c t.val (Nat.le_of_lt t.isLt) := by
  dsimp only [dats]; exact Pipeline.Dat.Φ_castSucc (PhiS m hO c) t

/-- The invariant at a point's end. -/
theorem PhiS_succ (hO : Ok m) (hH : Hyps m hO) (c : Dev nD) (t : Fin (cfgM m hO).N) :
    (dats m hO hH 0 c).Φ t.succ = iprop(iprop(iprop(owns (c : Thread nD τ) scM0 fullShare (sv m hO c t.val t.isLt).1 ∗ owns (c : Thread nD τ) scM1 fullShare (sv m hO c t.val t.isLt).2) ∗ (∃ r, prngReg c r)) ∗ Pipeline.ΦT pre0 (tbl m) c) := rfl

/-- Window 0 is found at its block. -/
theorem before0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (fun t => rfl) t d
/-- Window 1 is found at its block. -/
theorem before1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (fun t => rfl) t d
/-- Window 2 is found at its block. -/
theorem before2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (fun t => rfl) t d
/-- Window 3 is found at its block. -/
theorem before3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (fun t => rfl) t d
/-- Window 4 is found at its block. -/
theorem before4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (fun t => rfl) t d
/-- Window 5 is found at its block. -/
theorem before5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (fun t => rfl) t d
/-- Window 6 is found at its block. -/
theorem before6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (fun t => rfl) t d
/-- Window 7 is found at its block. -/
theorem before7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (fun t => rfl) t d
/-- Window 0 is left at its block. -/
theorem leaves0 (hO : Ok m) (hH : Hyps m hO) (c : Dev nD) (t : Fin (cfgM m hO).N) :
    (dats m hO hH 0 c).leavesExact 0 t = owns (c : Thread nD τ) (ms0 m hO t) fullShare (iblk m hO c 0 t) := rfl
/-- Window 1 is left at its block. -/
theorem leaves1 (hO : Ok m) (hH : Hyps m hO) (c : Dev nD) (t : Fin (cfgM m hO).N) :
    (dats m hO hH 0 c).leavesExact 1 t = owns (c : Thread nD τ) (ms1 m hO t) fullShare (iblk m hO c 1 t) := rfl
/-- Window 2 is left at its block. -/
theorem leaves2 (hO : Ok m) (hH : Hyps m hO) (c : Dev nD) (t : Fin (cfgM m hO).N) :
    (dats m hO hH 0 c).leavesExact 2 t = owns (c : Thread nD τ) (ms2 m hO t) fullShare (iblk m hO c 2 t) := rfl
/-- Window 3 is left at its block. -/
theorem leaves3 (hO : Ok m) (hH : Hyps m hO) (c : Dev nD) (t : Fin (cfgM m hO).N) :
    (dats m hO hH 0 c).leavesExact 3 t = owns (c : Thread nD τ) (ms3 m hO t) fullShare (iblk m hO c 3 t) := rfl
/-- Window 4 is left at its block. -/
theorem leaves4 (hO : Ok m) (hH : Hyps m hO) (c : Dev nD) (t : Fin (cfgM m hO).N) :
    (dats m hO hH 0 c).leavesExact 4 t = owns (c : Thread nD τ) (ms4 m hO t) fullShare (iblk m hO c 4 t) := rfl
/-- Window 5 is left at its block. -/
theorem leaves5 (hO : Ok m) (hH : Hyps m hO) (c : Dev nD) (t : Fin (cfgM m hO).N) :
    (dats m hO hH 0 c).leavesExact 5 t = owns (c : Thread nD τ) (ms5 m hO t) fullShare (iblk m hO c 5 t) := rfl
/-- Window 6 is left at its block. -/
theorem leaves6 (hO : Ok m) (hH : Hyps m hO) (c : Dev nD) (t : Fin (cfgM m hO).N) :
    (dats m hO hH 0 c).leavesExact 6 t = owns (c : Thread nD τ) (ms6 m hO t) fullShare (iblk m hO c 6 t) := rfl
/-- Window 7 is left at its block. -/
theorem leaves7 (hO : Ok m) (hH : Hyps m hO) (c : Dev nD) (t : Fin (cfgM m hO).N) :
    (dats m hO hH 0 c).leavesExact 7 t = owns (c : Thread nD τ) (ms7 m hO t) fullShare (iblk m hO c 7 t) := rfl

/-- Away from a tile's last expert the result's buffer is left alone, -/
theorem idle8 (hO : Ok m) (t : Fin (cfgM m hO).N) (h : ¬(grid0.coords t 1).val = 31) : (cfgM m hO).idle 8 ((cfgM m hO).grid.coords t) = true := by
  show (!(k0_cond2 (grid0.coords t) == 1#1)) = true
  rw [Bool.not_eq_true', beq_eq_false_iff_ne]
  exact fun e => h ((hcond1 _).mp e)

/-- and nothing is written back. -/
theorem noflush8 (hO : Ok m) (t : Fin (cfgM m hO).N) (h : ¬(grid0.coords t 1).val = 31) : ((cfgM m hO).win 8).flush t = false := by
  rw [Bool.eq_false_iff]
  exact fun e => h ((coords1 t).trans ((flush0_8 (adm m hO) t).mp e))

/-- At a tile's last expert the result's buffer is left at the finished rows. -/
theorem leaves8 (hO : Ok m) (hH : Hyps m hO) (c : Dev nD) (t : Fin (cfgM m hO).N) (h : (grid0.coords t 1).val = 31) :
    (dats m hO hH 0 c).leavesExact 8 t = owns (c : Thread nD τ) (ms8 m hO t) fullShare (outAt m hO c t) := by
  have hl : (cfgM m hO).idle 8 ((cfgM m hO).grid.coords t) = false := by
    show (!(k0_cond2 (grid0.coords t) == 1#1)) = false
    rw [(hcond1 (grid0.coords t)).mpr h]; rfl
  unfold Dat.leavesExact; rw [hl]; rfl

/-! ## The body at a point -/

/-- What the body is called with at point `t`. -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0 m hO t) fullShare ((dats m hO hH 0 c).before 0 t d))
    ∗ (∃ d, owns (c : Thread nD τ) (ms1 m hO t) fullShare ((dats m hO hH 0 c).before 1 t d))
    ∗ (∃ d, owns (c : Thread nD τ) (ms2 m hO t) fullShare ((dats m hO hH 0 c).before 2 t d))
    ∗ (∃ d, owns (c : Thread nD τ) (ms3 m hO t) fullShare ((dats m hO hH 0 c).before 3 t d))
    ∗ (∃ d, owns (c : Thread nD τ) (ms4 m hO t) fullShare ((dats m hO hH 0 c).before 4 t d))
    ∗ (∃ d, owns (c : Thread nD τ) (ms5 m hO t) fullShare ((dats m hO hH 0 c).before 5 t d))
    ∗ (∃ d, owns (c : Thread nD τ) (ms6 m hO t) fullShare ((dats m hO hH 0 c).before 6 t d))
    ∗ (∃ d, owns (c : Thread nD τ) (ms7 m hO t) fullShare ((dats m hO hH 0 c).before 7 t d))
    ∗ (∃ d, owns (c : Thread nD τ) (ms8 m hO t) fullShare ((dats m hO hH 0 c).before 8 t d)))

/-- What it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ (dats m hO hH 0 c).leavesExact 0 t
    ∗ (dats m hO hH 0 c).leavesExact 1 t
    ∗ (dats m hO hH 0 c).leavesExact 2 t
    ∗ (dats m hO hH 0 c).leavesExact 3 t
    ∗ (dats m hO hH 0 c).leavesExact 4 t
    ∗ (dats m hO hH 0 c).leavesExact 5 t
    ∗ (dats m hO hH 0 c).leavesExact 6 t
    ∗ (dats m hO hH 0 c).leavesExact 7 t
    ∗ (dats m hO hH 0 c).leavesExact 8 t)

set_option maxHeartbeats 4000000 in
/-- The body at point `t` meets its obligation. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0, before1, before2, before3, before4, before5, before6, before7]
  rw [show (dats m hO hH 0 c).owesAt () t.succ = (dats m hO hH 0 c).owesAt () t.castSucc from rfl]
  rw [leaves0 m hO hH c t, leaves1 m hO hH c t, leaves2 m hO hH c t, leaves3 m hO hH c t, leaves4 m hO hH c t, leaves5 m hO hH c t, leaves6 m hO hH c t, leaves7 m hO hH c t, PhiS_castSucc, PhiS_succ]
  rw [PhiT0_eq]
  by_cases h0 : (grid0.coords t 1).val = 0
  · have h1 : ¬(grid0.coords t 1).val = 31 := by omega
    rw [Dat.leavesExact_idle (dats m hO hH 0 c) 8 t (idle8 m hO t h1) (noflush8 m hO t h1)]
    have hopen := open_first m hO c t h0
    rw [PhiT0_eq] at hopen
    generalize sv m hO c t.val t.isLt = s at hopen ⊢
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    icases hopen $$ HΦ with ⟨%a, %r, %hst, ⟨⟨HA, HR⟩, Hg⟩, HT⟩
    subst hst
    iapply (wp_wand_r Idealize.ShloMosaic.frame (wpE (defs₀ (F := F)) Variants.none c none) Set.univ)
    isplitl [H0 H1 H2 H3 H4 H5 H6 H7 H8 HA HR HT]
    · iapply (run_first c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) scM0 (Memref.isWhole_whole _) scM1 (Memref.isWhole_whole _) ((hcond0 _).mpr h0) (fun h => h1 ((hcond1 _).mp h)) (blk0 m hO c t) (blk1 m hO c t) (blk2 m hO c t) (blk3 m hO c t) (blk4 m hO c t) (blk5 m hO c t) (blk6 m hO c t) (blk7 m hO c t) ((dats m hO hH 0 c).before 8 t d8) a r (tbl m 0) (hH c t))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HA]; · iexact HA
      isplitl [HR]; · iexact HR
      iexact HT
    · iintro %_ ⟨H0, H1, H2, H3, H4, H5, H6, H7, H8, HA, HR, HT⟩
      isplitl [HA HR Hg HT]
      · isplitr [HT]
        · isplitr [Hg]
          · isplitl [HA]; · iexact HA
            iexact HR
          · iexact Hg
        · iexact HT
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

  · by_cases h1 : (grid0.coords t 1).val = 31
    · rw [leaves8 m hO hH c t h1]
      unfold outAt
      have hopen := open_rest m hO c t h0
      rw [PhiT0_eq] at hopen
      generalize sv m hO c t.val t.isLt = s at hopen ⊢
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      icases hopen $$ HΦ with ⟨%a, %r, %hst, ⟨⟨HA, HR⟩, Hg⟩, HT⟩
      subst hst
      iapply (wp_wand_r Idealize.ShloMosaic.frame (wpE (defs₀ (F := F)) Variants.none c none) Set.univ)
      isplitl [H0 H1 H2 H3 H4 H5 H6 H7 H8 HA HR HT]
      · iapply (run_last c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) scM0 (Memref.isWhole_whole _) scM1 (Memref.isWhole_whole _) (fun h => h0 ((hcond0 _).mp h)) ((hcond1 _).mpr h1) (blk0 m hO c t) (blk1 m hO c t) (blk2 m hO c t) (blk3 m hO c t) (blk4 m hO c t) (blk5 m hO c t) (blk6 m hO c t) (blk7 m hO c t) ((dats m hO hH 0 c).before 8 t d8) a r (tbl m 0) (hH c t))
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HA]; · iexact HA
        isplitl [HR]; · iexact HR
        iexact HT
      · iintro %_ ⟨H0, H1, H2, H3, H4, H5, H6, H7, H8, HA, HR, HT⟩
        isplitl [HA HR Hg HT]
        · isplitr [HT]
          · isplitr [Hg]
            · isplitl [HA]; · iexact HA
              iexact HR
            · iexact Hg
          · iexact HT
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8

    · rw [Dat.leavesExact_idle (dats m hO hH 0 c) 8 t (idle8 m hO t h1) (noflush8 m hO t h1)]
      have hopen := open_rest m hO c t h0
      rw [PhiT0_eq] at hopen
      generalize sv m hO c t.val t.isLt = s at hopen ⊢
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      icases hopen $$ HΦ with ⟨%a, %r, %hst, ⟨⟨HA, HR⟩, Hg⟩, HT⟩
      subst hst
      iapply (wp_wand_r Idealize.ShloMosaic.frame (wpE (defs₀ (F := F)) Variants.none c none) Set.univ)
      isplitl [H0 H1 H2 H3 H4 H5 H6 H7 H8 HA HR HT]
      · iapply (run_mid c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) scM0 (Memref.isWhole_whole _) scM1 (Memref.isWhole_whole _) (fun h => h0 ((hcond0 _).mp h)) (fun h => h1 ((hcond1 _).mp h)) (blk0 m hO c t) (blk1 m hO c t) (blk2 m hO c t) (blk3 m hO c t) (blk4 m hO c t) (blk5 m hO c t) (blk6 m hO c t) (blk7 m hO c t) ((dats m hO hH 0 c).before 8 t d8) a r (tbl m 0) (hH c t))
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HA]; · iexact HA
        isplitl [HR]; · iexact HR
        iexact HT
      · iintro %_ ⟨H0, H1, H2, H3, H4, H5, H6, H7, H8, HA, HR, HT⟩
        isplitl [HA HR Hg HT]
        · isplitr [HT]
          · isplitr [Hg]
            · isplitl [HA]; · iexact HA
              iexact HR
            · iexact Hg
          · iexact HT
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8

/-- The pipeline calls the body at its point. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body's obligation at every point. -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run -/

/-- The region starts from what it is handed. -/
theorem hin (hO : Ok m) (hH : Hyps m hO) (c : Dev nD) : iprop(Pipeline.ΦA spec0 c ∗ Pipeline.ΦT pre0 (tbl m) c) ⊢ (dats m hO hH 0 c).Φ 0 :=
  Idealize.SL.BI.Entails.refl _

/-- After a point the scratch buffers are at some contents. -/
theorem PhiS_out (hO : Ok m) (c : Dev nD) (n : ℕ) (h : n ≤ (cfgM m hO).N) (hz : n ≠ 0) : PhiS m hO c n h ⊢ Pipeline.ΦA spec0 c := by
  cases n with
  | zero => exact absurd rfl hz
  | succ n =>
    show iprop(iprop(iprop(owns (c : Thread nD τ) scM0 fullShare (sv m hO c n _).1 ∗ owns (c : Thread nD τ) scM1 fullShare (sv m hO c n _).2) ∗ (∃ r, prngReg c r)) ∗ Pipeline.ΦT pre0 (tbl m) c) ⊢ _
    rw [PhiA0_eq]
    iintro ⟨⟨⟨HA, HR⟩, Hg⟩, -⟩
    isplitr [Hg]
    · isplitl [HA]
      · iexists _; iexact HA
      · iexists _; iexact HR
    · iexact Hg

/-- And ends with it. -/
theorem hout (hO : Ok m) (hH : Hyps m hO) (c : Dev nD) : (dats m hO hH 0 c).Φ (Fin.last (cfgM m hO).N) ⊢ Pipeline.ΦA spec0 c :=
  PhiS_out m hO c (cfgM m hO).N le_rfl (by have : (cfgM m hO).N = 1024 := N_0; omega)

/-- The program runs, its arrays at what the pipeline writes back, every counter at zero. -/
theorem run_main (hO : Ok m) (hH : Hyps m hO) : θ_run defs (onTc (τ := τ) (main (F := F))) (s₀ m ρ) (fun r => Pipeline.FramePost (Pipeline.pin pcfgs fun _ => adm m hO) (dats m hO hH) 0 (V m) r ∧ r.2.sem = fun _ => 0) :=
  Pipeline.θ_run_frameP_track (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m) (hin := hin m hO hH) (hout := hout m hO hH)

end Cert.KernelIdeal.Moe

end
-- ==== Proof.MoeI.Count.lean ====
/- The loop bounds of the expert call: a count of at most 1024 rows takes (count + 127) / 128 passes, and the passes left
   after them are none. -/
module

public import proofs.«01_k».proof.Proof.MoeI.Run

@[expose] public section

set_option maxRecDepth 16384

namespace Cert.KernelIdeal.Moe

open Idealize Idealize.ShloMosaic
open Cert.KernelIdeal Cert.KernelIdeal.Gen

/-- For a count of at most 1024 both loops' bounds are in range, and the first makes one trip per started 128 rows. -/
theorem bounds : ∀ n : Fin 1025, ((k0_t1_loop (BitVec.ofNat 32 n.val)).OK ∧ (k0_t2_loop (BitVec.ofNat 32 n.val)).OK)
    ∧ (k0_t1_loop (BitVec.ofNat 32 n.val)).trips = (n.val + 127) / 128 := by
  decide +kernel

/-- The side condition of the body holds at every count of at most 1024. -/
theorem chk_of_count (n : ℕ) (hn : n ≤ 1024) : k0_chk1 (BitVec.ofNat 32 n) := (bounds ⟨n, by omega⟩).1

/-- The number of passes at a count of at most 1024. -/
theorem trips_of_count (n : ℕ) (hn : n ≤ 1024) : (k0_t1_loop (BitVec.ofNat 32 n)).trips = (n + 127) / 128 := (bounds ⟨n, by omega⟩).2

end Cert.KernelIdeal.Moe
-- ==== Proof.MoeI.Table.lean ====
/- The table of counts the expert call prefetches: for each tile of 1024 rows and each expert, how many rows of the tile the
   expert is given. -/
module

public import proofs.«01_k».proof.Proof.MoeI.Count
public import Idealize.ShloMosaic.Lib.Pointwise
public import Idealize.ShloMosaic.Lib.Claim
public import Idealize.ShloMosaic.Lib.IndicatorCount

@[expose] public section

set_option maxRecDepth 16384

noncomputable section

namespace Cert.KernelIdeal.Moe

open Idealize Idealize.ShloMosaic Idealize.ShloMosaic.TcCoe Idealize.SL.Sem
open Cert.KernelIdeal Cert.KernelIdeal.Gen

variable {F : FTy → Type} [FloatOps F] (m : (ℓ : Loc nD τ sig) → Buf (Elt F) ℓ)

/-- Whether expert `e` is given row `p`: its gate there is above zero. -/
def given (g : FVec F S128x32768 .f32) (e : Fin 32) (p : Fin 32768) : BitVec 1 :=
  FloatOps.cmpf .ogt (g (ix2 ⟨e.val, by omega⟩ p)) (FloatOps.ofBits .f32 0x00000000#32)

/-- The flags widened, summed over the rows of a tile, transposed and flattened. -/
def counts (g : FVec F S128x32768 .f32) : IVec S1024 32 :=
  shapeCast S1024 (transpose S32x32 [1, 0] (Host.reduce IntOp.addi (extui 32 (shapeCast S32x32x1024 (cmpf .ogt
    (extractStridedSlice S32x32768 ![0, 0] g slices_S128x32768_S32x32768_0_0) (broadcastInDim S32x32768 ![] bcast_S_S32x32768 (constant S_ .f32 0x00000000#32)))
      shapeCasts_S32x32768_S32x32x1024) natLt_1_32) (constantI S_ 32 0#32) reducesTo_S32x32x1024_S32x32_d2 h_S_) transposes_S32x32_S32x32_1_0) shapeCasts_S32x32_S1024

/-- The prefetched table is `counts` of the gates. -/
theorem table_entry (c : Dev nD) : V m c main_v13 = counts (m ((c.tc : Thread nD τ).loc main_arg1)) := by
  entry_read
  rfl

/-- One count: the rows of a tile that an expert is given. -/
theorem counts_apply (g : FVec F S128x32768 .f32) (n : Fin 1024) :
    counts g (ix1 n) = BitVec.ofNat 32 ((Finset.univ : Finset (Fin 1024)).filter fun r =>
      given g ⟨n.val % 32, by omega⟩ ⟨n.val / 32 * 1024 + r.val, by omega⟩ = 1#1).card := by
  rw [← IndicatorCount.fold_addi_setWidth_eq_card]
  pointwise [counts]
  rfl

/-- The word a grid point asks for is the one of its own number. -/
theorem off2_eq : ∀ t : Fin grid0.N, k0_off2 (grid0.coords t) 0 = t.val := by decide +kernel

/-- The word read out of any table. -/
theorem wordOf_apply {c : Dev nD} (t : Fin grid0.N) (X : TbBuf0 (F := F) c tbM0_0) (n : Fin 1024) (hn : n.val = t.val) :
    wordOf (grid0.coords t) X = X (ix1 n) := by
  refine congrArg X (funext fun a => Fin.ext ?_)
  fin_cases a
  show (k0_off2 (grid0.coords t) 0 + 1 * 0 : ℕ) = n.val
  rw [off2_eq, hn]; rfl

/-- The word a grid point reads is the count of its own number. -/
theorem cnt_eq (hO : Ok m) (c : Dev nD) (t : Fin (cfgM m hO).N) (n : Fin 1024) (hn : n.val = t.val) :
    cntAt m hO c t = counts (m (((0 : Dev nD).tc : Thread nD τ).loc main_arg1)) (ix1 n) :=
  (wordOf_apply (c := c) t (tbl m 0) n hn).trans (congrFun (table_entry m 0) (ix1 n))

/-- The rows of a tile that an expert is given, for grid point `t`. -/
def rowsGiven (g : FVec F S128x32768 .f32) (n : Fin 1024) : Finset (Fin 1024) :=
  Finset.univ.filter fun r => given g ⟨n.val % 32, by omega⟩ ⟨n.val / 32 * 1024 + r.val, by omega⟩ = 1#1

/-- A tile has 1024 rows, so no expert is given more. -/
theorem rowsGiven_card_le (g : FVec F S128x32768 .f32) (n : Fin 1024) : (rowsGiven g n).card ≤ 1024 :=
  (Finset.card_le_univ _).trans (by simp)

/-- No window's place depends on the table, so every content of it is admissible. -/
theorem ok : Ok m := by
  unfold Ok ok0
  trivial

/-- Every grid point's loops are in range. -/
theorem hyps : Hyps m (ok m) := fun c t => by
  have hN : t.val < 1024 := lt_of_lt_of_eq t.isLt N_0
  rw [cnt_eq m (ok m) c t ⟨t.val, hN⟩ rfl, counts_apply]
  exact chk_of_count _ (rowsGiven_card_le _ ⟨t.val, hN⟩)

variable (ρ : Dev nD → PrngReg)

/-- The call terminates, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (ok m) (dats m (ok m) (hyps m)) (A_eq m (ok m) (hyps m))
    ((θ_run defs _ _).mono (fun _ h => h.1) (run_main m ρ (ok m) (hyps m))))
    ((θ_run defs _ _).mono (fun _ h => h.2) (run_main m ρ (ok m) (hyps m)))

end Cert.KernelIdeal.Moe
-- ==== Proof.MoeI.Pass.lean ====
/- One pass of the expert call, read at a row and a column: which slot a row takes, the rows the slots gather, the expert's
   product on a gathered row, and the rows the pass gives back. -/
module

public import proofs.«01_k».proof.Proof.MoeI.Table
public import Idealize.ShloMosaic.Lib.Pointwise

@[expose] public section

set_option maxRecDepth 16384

noncomputable section

namespace Cert.KernelIdeal.Moe

open Idealize Idealize.ShloMosaic Idealize.ShloMosaic.TcCoe
open Cert.KernelIdeal Cert.KernelIdeal.Gen

/-- Which rows the slots of pass `k` take: a given row whose rank is the slot's own number. -/
def hits (gate rank : FVec Ideal S1x1024 .f32) (k : BitVec 32) : IVec S128x1024 1 :=
  andi (broadcastTo S128x1024 (k0_pay8 (F := Ideal) gate) broadcasts_S1x1024_S128x1024)
    (cmpf .oeq (broadcastTo S128x1024 rank broadcasts_S1x1024_S128x1024)
      (addf (k0_pay9 (F := Ideal)) (broadcast S128x1024 (Scalar.sitofp (F := Ideal) .f32 (Scalar.muli k 128#32)))))

/-- A flag as a number. -/
def onehot (h : IVec S128x1024 1) : FVec Ideal S128x1024 .bf16 :=
  truncf .bf16 (sitofp .f32 (extui 32 h natLt_1_32)) bitsLt_bf16_f32

/-- The rows the slots gather. -/
def gathered (h : IVec S128x1024 1) (x : FVec Ideal S1024x1024 .bf16) : FVec Ideal S128x1024 .bf16 :=
  truncf .bf16 (matmul dot_S128x1024_S1024x1024_S128x1024_1_0_0_1_n_n none (onehot h) x (constant S128x1024 .f32 0x00000000#32)) bitsLt_bf16_f32

/-- The gathered rows times one expert's first weights. -/
def lifted (y : FVec Ideal S128x1024 .bf16) (w : FVec Ideal S1x1024x512 .bf16) : FVec Ideal S128x512 .f32 :=
  matmul dot_S128x1024_S1024x512_S128x512_1_0_0_1_n_n none y (shapeCast S1024x512 w shapeCasts_S1x1024x512_S1024x512) (constant S128x512 .f32 0x00000000#32)

/-- The expert's product on the gathered rows. -/
def expert (y : FVec Ideal S128x1024 .bf16) (wg wu : FVec Ideal S1x1024x512 .bf16) (wd : FVec Ideal S1x512x1024 .bf16) : FVec Ideal S128x1024 .f32 :=
  matmul dot_S128x512_S512x1024_S128x1024_1_0_0_1_n_n none
    (truncf .bf16 (mulf (mulf (lifted y wg) (logistic (lifted y wg))) (lifted y wu)) bitsLt_bf16_f32)
    (shapeCast S512x1024 wd shapeCasts_S1x512x1024_S512x1024) (constant S128x1024 .f32 0x00000000#32)

/-- The gate of the row each slot took. -/
def slotGate (h : IVec S128x1024 1) (gate : FVec Ideal S1x1024 .f32) : FVec Ideal S128x1 .f32 :=
  shapeCast S128x1 (multiReduction (F := Ideal) .add [1] S128 (select h (broadcastTo S128x1024 (shapeCast S1x1024 gate shapeCasts_S1x1024_S1x1024) broadcasts_S1x1024_S128x1024)
    (broadcast S128x1024 (Scalar.ofBits (F := Ideal) .f32 0x00000000#32))) 0x00000000#32 reduces_S128x1024_S128 (.inl rfl) rfl) shapeCasts_S128_S128x1

/-- The rows a pass gives back. -/
def givenBack (h : IVec S128x1024 1) (gate : FVec Ideal S1x1024 .f32) (y : FVec Ideal S128x1024 .f32) : FVec Ideal S1024x1024 .f32 :=
  matmul dot_S128x1024_S128x1024_S1024x1024_0_0_1_1_n_n none (onehot h)
    (truncf .bf16 (mulf y (broadcastTo S128x1024 (slotGate h gate) broadcasts_S128x1_S128x1024)) bitsLt_bf16_f32) (constant S1024x1024 .f32 0x00000000#32)

/-- A pass is these steps in turn. -/
theorem pass_eq (gate rank : FVec Ideal S1x1024 .f32) (cnt : Elt Ideal .i32) (k : Fin (k0_t1_loop cnt).trips) (x : FVec Ideal S1024x1024 .bf16)
    (wg wu : FVec Ideal S1x1024x512 .bf16) (wd : FVec Ideal S1x512x1024 .bf16) :
    k0_pay4 (F := Ideal) gate rank (k0_pay8 (F := Ideal) gate) cnt (k0_pay9 (F := Ideal)) 0#32 1#32 k x wg wu wd
      = givenBack (hits gate rank (Scf.iv 0#32 1#32 k)) gate (expert (gathered (hits gate rank (Scf.iv 0#32 1#32 k)) x) wg wu wd) := rfl

/-- A one-bit word made of a decision is set exactly when the decision holds. -/
theorem and_flags (p q : Prop) [Decidable p] [Decidable q] :
    IntOp.andi (BitVec.ofBool (decide p)) (BitVec.ofBool (decide q)) = 1#1 ↔ p ∧ q := by
  by_cases hp : p <;> by_cases hq : q <;> simp [hp, hq, IntOp.andi]

/-- The slots of a pass and the pass's first slot, as whole numbers. -/
theorem slot_toInt : ∀ s : Fin 128, (BitVec.ofNat 32 s.val).toInt = (s.val : ℤ) := by decide +kernel

/-- The first slot of a pass is 128 times its number. -/
theorem first_toInt : ∀ k : Fin 8, (Scalar.muli (Scf.iv 0#32 1#32 k.val) 128#32).toInt = ((128 * k.val : ℕ) : ℤ) := by decide +kernel

/-- A row is taken by a slot when it is given and its rank is the slot's number counted over the passes. -/
theorem hits_apply (gate rank : FVec Ideal S1x1024 .f32) (k : ℕ) (hk : k < 8) (s : Fin 128) (r : Fin 1024) :
    hits gate rank (Scf.iv 0#32 1#32 k) (ix2 s r) = 1#1 ↔ 0 < gate (ix2 0 r) ∧ rank (ix2 0 r) = ((s.val + 128 * k : ℕ) : EReal) := by
  have hs := slot_toInt s
  have hf := first_toInt ⟨k, hk⟩
  pointwise [hits, k0_pay8, k0_pay9]
  refine (and_flags _ _).trans (and_congr_right fun _ => ?_)
  show rank (ix2 0 r) = ((((BitVec.ofNat 32 s.val).toInt : ℝ)) : EReal) + (((Scalar.muli (Scf.iv 0#32 1#32 k) 128#32).toInt : ℝ) : EReal) ↔ _
  rw [hs, hf]
  push_cast
  rfl

/-- A widened flag as a number. -/
theorem flag_number : ∀ b : BitVec 1, ((((BitVec.setWidth 32 b).toInt : ℝ)) : EReal) = if b = 1#1 then 1 else 0 := by
  intro b
  have h : ∀ b : BitVec 1, (BitVec.setWidth 32 b).toInt = if b = 1#1 then 1 else 0 := by decide
  rw [h b]
  split <;> simp

/-- A flag is the number one or zero. -/
theorem onehot_apply (h : IVec S128x1024 1) (s : Fin 128) (r : Fin 1024) : onehot h (ix2 s r) = if h (ix2 s r) = 1#1 then 1 else 0 := by
  pointwise [onehot]
  exact flag_number _

/-- What a slot gathers. -/
theorem gathered_apply (h : IVec S128x1024 1) (x : FVec Ideal S1024x1024 .bf16) (s : Fin 128) (k : Fin 1024) :
    gathered h x (ix2 s k) = ∑ r : Fin 1024, onehot h (ix2 s r) * x (ix2 r k) := by
  pointwise [gathered]

/-- One element of the gathered rows times the first weights. -/
theorem lifted_apply (y : FVec Ideal S128x1024 .bf16) (w : FVec Ideal S1x1024x512 .bf16) (s : Fin 128) (j : Fin 512) :
    lifted y w (ix2 s j) = ∑ k : Fin 1024, y (ix2 s k) * w (ix3 0 k j) := by
  pointwise [lifted]

/-- One element of the expert's product. -/
theorem expert_apply (y : FVec Ideal S128x1024 .bf16) (wg wu : FVec Ideal S1x1024x512 .bf16) (wd : FVec Ideal S1x512x1024 .bf16) (s : Fin 128) (d : Fin 1024) :
    expert y wg wu wd (ix2 s d) = ∑ j : Fin 512, lifted y wg (ix2 s j) * Ideal.logistic (lifted y wg (ix2 s j)) * lifted y wu (ix2 s j) * wd (ix3 0 j d) := by
  pointwise [expert]

/-- The gate a slot sums. -/
theorem slotGate_apply (h : IVec S128x1024 1) (gate : FVec Ideal S1x1024 .f32) (s : Fin 128) :
    slotGate h gate (ix2 s 0) = ∑ r : Fin 1024, if h (ix2 s r) = 1#1 then gate (ix2 0 r) else 0 := by
  pointwise [slotGate]
  refine Finset.sum_congr rfl fun r _ => ?_
  unfold Scalar.select
  rfl

/-- One element of what a pass gives back. -/
theorem givenBack_apply (h : IVec S128x1024 1) (gate : FVec Ideal S1x1024 .f32) (y : FVec Ideal S128x1024 .f32) (r d : Fin 1024) :
    givenBack h gate y (ix2 r d) = ∑ s : Fin 128, onehot h (ix2 s r) * (y (ix2 s d) * slotGate h gate (ix2 s 0)) := by
  pointwise [givenBack]

/-- The ranks: the given rows, summed against the table of earlier rows. -/
theorem rank_apply (g : FVec Ideal S128x1024 .f32) (tri : FVec Ideal S1024x1024 .bf16) (e : Fin 128) (r : Fin 1024) :
    k0_pay7 (F := Ideal) g tri (ix2 e r) = ∑ x : Fin 1024, (if 0 < g (ix2 e x) then 1 else 0) * tri (ix2 x r) := by
  pointwise [k0_pay7]
  refine Finset.sum_congr rfl fun x _ => congrArg (· * tri (ix2 x r)) ?_
  refine (flag_number _).trans ?_
  by_cases h : 0 < g (ix2 e x) <;> simp [h]

/-- One finished element: the residual and the experts' sum, normalised and multiplied by the gain. -/
theorem final_apply (x acc : FVec Ideal S1024x1024 .f32) (g : FVec Ideal S1x1024 .f32) (r d : Fin 1024) :
    k0_pay3 (F := Ideal) x acc g (ix2 r d) = (x (ix2 r d) + acc (ix2 r d)) * Ideal.rsqrt (Ideal.div
      (∑ l : Fin 1024, (x (ix2 r l) + acc (ix2 r l)) * (x (ix2 r l) + acc (ix2 r l))) (Ideal.ofBits FTy.f32 0x44800000#32)
        + Ideal.ofBits FTy.f32 0x358637BD#32) * g (ix2 0 d) := by
  pointwise [k0_pay3]

end Cert.KernelIdeal.Moe
-- ==== Proof.MoeI.Dispatch.lean ====
/- The dispatch: the passes over the slots give every chosen row its expert's product times its gate, once, and every other row
   nothing. -/
module

public import proofs.«01_k».proof.Proof.MoeI.Pass

@[expose] public section

set_option maxRecDepth 16384

noncomputable section

namespace Cert.KernelIdeal.Moe

open Idealize Idealize.ShloMosaic Idealize.ShloMosaic.TcCoe
open Cert.KernelIdeal Cert.KernelIdeal.Gen

/-- How many chosen rows come before row `r`. -/
def before (gate : Fin 1024 → EReal) (r : Fin 1024) : ℕ := (Finset.univ.filter fun x : Fin 1024 => 0 < gate x ∧ x < r).card

/-- How many rows are chosen. -/
def chosen (gate : Fin 1024 → EReal) : ℕ := (Finset.univ.filter fun x : Fin 1024 => 0 < gate x).card

/-- A chosen row counts for every later row. -/
theorem before_lt_before (gate : Fin 1024 → EReal) {a b : Fin 1024} (ha : 0 < gate a) (hab : a < b) : before gate a < before gate b := by
  refine Finset.card_lt_card (Finset.ssubset_iff_subset_ne.mpr ⟨fun x hx => ?_, fun he => ?_⟩)
  · simp only [Finset.mem_filter, Finset.mem_univ, true_and] at hx ⊢
    exact ⟨hx.1, hx.2.trans hab⟩
  · have : a ∈ Finset.univ.filter fun x : Fin 1024 => 0 < gate x ∧ x < a := by
      rw [he]; simp [ha, hab]
    simp at this

/-- Two chosen rows have different ranks. -/
theorem before_inj (gate : Fin 1024 → EReal) {a b : Fin 1024} (ha : 0 < gate a) (hb : 0 < gate b) (h : before gate a = before gate b) : a = b := by
  rcases lt_trichotomy a b with hl | he | hg
  · exact absurd h (before_lt_before gate ha hl).ne
  · exact he
  · exact absurd h (before_lt_before gate hb hg).ne'

/-- A chosen row's rank is less than the number of chosen rows. -/
theorem before_lt_chosen (gate : Fin 1024 → EReal) {r : Fin 1024} (hr : 0 < gate r) : before gate r < chosen gate := by
  refine Finset.card_lt_card (Finset.ssubset_iff_subset_ne.mpr ⟨fun x hx => ?_, fun he => ?_⟩)
  · simp only [Finset.mem_filter, Finset.mem_univ, true_and] at hx ⊢
    exact hx.1
  · have : r ∈ Finset.univ.filter fun x : Fin 1024 => 0 < gate x ∧ x < r := by
      rw [he]; simp [hr]
    simp at this

/-- The expert's product on one row. -/
def ffn (x : Fin 1024 → EReal) (wg wu : Fin 1024 → Fin 512 → EReal) (wd : Fin 512 → Fin 1024 → EReal) (d : Fin 1024) : EReal :=
  ∑ j : Fin 512, (∑ k : Fin 1024, x k * wg k j) * Ideal.logistic (∑ k : Fin 1024, x k * wg k j) * (∑ k : Fin 1024, x k * wu k j) * wd j d

section Passes

variable (gate rank : FVec Ideal S1x1024 .f32) (x : FVec Ideal S1024x1024 .bf16)
  (wg wu : FVec Ideal S1x1024x512 .bf16) (wd : FVec Ideal S1x512x1024 .bf16)

/-- A gate row as a function of the row's number. -/
def gateAt (r : Fin 1024) : EReal := gate (ix2 0 r)

/-- What a chosen row is owed: the expert's product on it times its gate. -/
def owed (r d : Fin 1024) : EReal :=
  ffn (fun k => x (ix2 r k)) (fun k j => wg (ix3 0 k j)) (fun k j => wu (ix3 0 k j)) (fun j d => wd (ix3 0 j d)) d * gateAt gate r

variable (hrank : ∀ r, rank (ix2 0 r) = (before (gateAt gate) r : EReal))

include hrank

/-- A row is taken by a slot when it is chosen and its rank is the slot's number. -/
theorem hit_iff (k : ℕ) (hk : k < 8) (s : Fin 128) (r : Fin 1024) :
    hits gate rank (Scf.iv 0#32 1#32 k) (ix2 s r) = 1#1 ↔ 0 < gateAt gate r ∧ before (gateAt gate) r = s.val + 128 * k := by
  rw [hits_apply gate rank k hk, hrank]
  refine and_congr Iff.rfl ?_
  exact_mod_cast Iff.rfl

/-- The row a slot takes is the only one it takes. -/
theorem hit_iff_eq (k : ℕ) (hk : k < 8) (s : Fin 128) (r : Fin 1024) (hr : 0 < gateAt gate r) (hb : before (gateAt gate) r = s.val + 128 * k) (r' : Fin 1024) :
    hits gate rank (Scf.iv 0#32 1#32 k) (ix2 s r') = 1#1 ↔ r' = r := by
  rw [hit_iff gate rank hrank k hk]
  refine ⟨fun h => before_inj _ h.1 hr (h.2.trans hb.symm), fun h => ?_⟩
  rw [h]
  exact ⟨hr, hb⟩

/-- A slot that takes row `r` gathers row `r`. -/
theorem gathered_row (k : ℕ) (hk : k < 8) (s : Fin 128) (r : Fin 1024) (hr : 0 < gateAt gate r) (hb : before (gateAt gate) r = s.val + 128 * k) (l : Fin 1024) :
    gathered (hits gate rank (Scf.iv 0#32 1#32 k)) x (ix2 s l) = x (ix2 r l) := by
  rw [gathered_apply, Finset.sum_eq_single r]
  · rw [onehot_apply, if_pos ((hit_iff_eq gate rank hrank k hk s r hr hb r).mpr rfl), one_mul]
  · intro r' _ hne
    rw [onehot_apply, if_neg fun h => hne ((hit_iff_eq gate rank hrank k hk s r hr hb r').mp h), zero_mul]
  · exact fun h => absurd (Finset.mem_univ _) h

/-- A slot that takes row `r` sums row `r`'s gate. -/
theorem slotGate_row (k : ℕ) (hk : k < 8) (s : Fin 128) (r : Fin 1024) (hr : 0 < gateAt gate r) (hb : before (gateAt gate) r = s.val + 128 * k) :
    slotGate (hits gate rank (Scf.iv 0#32 1#32 k)) gate (ix2 s 0) = gateAt gate r := by
  rw [slotGate_apply, Finset.sum_eq_single r]
  · rw [if_pos ((hit_iff_eq gate rank hrank k hk s r hr hb r).mpr rfl)]; rfl
  · intro r' _ hne
    rw [if_neg fun h => hne ((hit_iff_eq gate rank hrank k hk s r hr hb r').mp h)]
  · exact fun h => absurd (Finset.mem_univ _) h

/-- One pass gives the chosen rows whose ranks it covers what they are owed, and every other row nothing. -/
theorem pass_apply (k : ℕ) (hk : k < 8) (r d : Fin 1024) :
    givenBack (hits gate rank (Scf.iv 0#32 1#32 k)) gate (expert (gathered (hits gate rank (Scf.iv 0#32 1#32 k)) x) wg wu wd) (ix2 r d)
      = if 0 < gateAt gate r ∧ before (gateAt gate) r / 128 = k then owed gate x wg wu wd r d else 0 := by
  rw [givenBack_apply]
  split
  · rename_i h
    have hb : before (gateAt gate) r = (⟨before (gateAt gate) r % 128, Nat.mod_lt _ (by norm_num)⟩ : Fin 128).val + 128 * k := by
      show before (gateAt gate) r = before (gateAt gate) r % 128 + 128 * k
      have := h.2
      omega
    rw [Finset.sum_eq_single (⟨before (gateAt gate) r % 128, Nat.mod_lt _ (by norm_num)⟩ : Fin 128)]
    · rw [onehot_apply, if_pos ((hit_iff gate rank hrank k hk _ r).mpr ⟨h.1, hb⟩), one_mul, slotGate_row gate rank hrank k hk _ r h.1 hb, expert_apply]
      simp only [lifted_apply, gathered_row gate rank x hrank k hk _ r h.1 hb]
      rfl
    · intro s _ hne
      rw [onehot_apply, if_neg, zero_mul]
      intro hh
      refine hne (Fin.ext ?_)
      have := ((hit_iff gate rank hrank k hk s r).mp hh).2
      have hs := s.isLt
      show s.val = before (gateAt gate) r % 128
      omega
    · exact fun h => absurd (Finset.mem_univ _) h
  · rename_i h
    refine Finset.sum_eq_zero fun s _ => ?_
    rw [onehot_apply, if_neg, zero_mul]
    intro hh
    have h' := (hit_iff gate rank hrank k hk s r).mp hh
    have hs := s.isLt
    exact h ⟨h'.1, by have := h'.2; omega⟩

/-- After `k` passes the chosen rows whose ranks the passes covered have been given what they are owed. -/
theorem passes_apply (cnt : Elt Ideal .i32) (a : FVec Ideal S1024x1024 .f32) (ht : (k0_t1_loop cnt).trips ≤ 8) (r d : Fin 1024) :
    ∀ k : ℕ, k ≤ (k0_t1_loop cnt).trips → passes (F := Ideal) gate rank cnt x wg wu wd a k (ix2 r d)
      = a (ix2 r d) + if 0 < gateAt gate r ∧ before (gateAt gate) r < 128 * k then owed gate x wg wu wd r d else 0
  | 0, _ => by
    rw [if_neg (by omega), add_zero]
    rfl
  | k + 1, hk => by
    have hlt : k < (k0_t1_loop cnt).trips := hk
    have ih := passes_apply cnt a ht r d k (le_of_lt hlt)
    have hp := pass_apply gate rank x wg wu wd hrank k (lt_of_lt_of_le hlt ht) r d
    have hstep : passes (F := Ideal) gate rank cnt x wg wu wd a (k + 1) = k0_pay1 (F := Ideal) (passes (F := Ideal) gate rank cnt x wg wu wd a k)
        (k0_pay4 (F := Ideal) gate rank (k0_pay8 (F := Ideal) gate) cnt (k0_pay9 (F := Ideal)) 0#32 1#32 ⟨k, hlt⟩ x wg wu wd) := by
      rw [passes, dif_pos hlt]
    rw [hstep, pass_eq]
    have hadd : ∀ u v : FVec Ideal S1024x1024 .f32, k0_pay1 (F := Ideal) u v (ix2 r d) = u (ix2 r d) + v (ix2 r d) := by
      intro u v
      pointwise [k0_pay1]
    rw [hadd, ih, add_assoc]
    refine congrArg (a (ix2 r d) + ·) ?_
    refine (congrArg (_ + ·) hp).trans ?_
    by_cases h0 : 0 < gateAt gate r
    · by_cases h1 : before (gateAt gate) r < 128 * k
      · rw [if_pos ⟨h0, h1⟩, if_neg (by rintro ⟨_, h⟩; omega), if_pos ⟨h0, by omega⟩, add_zero]
      · by_cases h2 : before (gateAt gate) r / 128 = k
        · rw [if_neg (by rintro ⟨_, h⟩; omega), if_pos ⟨h0, h2⟩, if_pos ⟨h0, by omega⟩, zero_add]
        · rw [if_neg (by rintro ⟨_, h⟩; omega), if_neg (by rintro ⟨_, h⟩; omega), if_neg (by rintro ⟨_, h⟩; omega), zero_add]
    · simp only [h0, false_and, if_false, add_zero]

/-- All the passes of one expert: every chosen row is given what it is owed. -/
theorem passes_all (a : FVec Ideal S1024x1024 .f32) (cnt : Elt Ideal .i32) (hc : cnt = BitVec.ofNat 32 (chosen (gateAt gate))) (r d : Fin 1024) :
    passes (F := Ideal) gate rank cnt x wg wu wd a (k0_t1_loop cnt).trips (ix2 r d)
      = a (ix2 r d) + if 0 < gateAt gate r then owed gate x wg wu wd r d else 0 := by
  have hle : chosen (gateAt gate) ≤ 1024 := (Finset.card_le_univ _).trans (by simp)
  have htr : (k0_t1_loop cnt).trips = (chosen (gateAt gate) + 127) / 128 := by rw [hc]; exact trips_of_count _ hle
  rw [passes_apply gate rank x wg wu wd hrank cnt a (by omega) r d _ le_rfl]
  by_cases h0 : 0 < gateAt gate r
  · have := before_lt_chosen _ h0
    rw [if_pos ⟨h0, by omega⟩, if_pos h0]
  · rw [if_neg (fun h => h0 h.1), if_neg h0]

end Passes

end Cert.KernelIdeal.Moe
-- ==== Proof.MoeI.Blocks.lean ====
/- What each block of the expert call holds at a grid point, in terms of the call's own arguments. Grid point `t` is expert
   `t % 32` of tile `t / 32`. -/
module

public import proofs.«01_k».proof.Proof.MoeI.Dispatch
public import Idealize.ShloMosaic.Lib.Pipeline.ValueKit
public import Idealize.ShloMosaic.Lib.Claim

@[expose] public section

set_option maxRecDepth 16384

noncomputable section

namespace Cert.KernelIdeal.Moe

open Idealize Idealize.ShloMosaic Idealize.ShloMosaic.Pipeline Idealize.ShloMosaic.TcCoe
open Cert.KernelIdeal Cert.KernelIdeal.Gen

/-- Where the blocks of the rows, the gates and the residual lie at each grid point. -/
theorem idxRows : ∀ t : Fin grid0.N, cc0_transform_0 (grid0.coords t) = ![t.val / 32, 0] ∧ cc0_transform_1 (grid0.coords t) = ![0, t.val / 32]
    ∧ cc0_transform_2 (grid0.coords t) = ![t.val / 32, 0] ∧ cc0_transform_3 (grid0.coords t) = ![0, 0] ∧ cc0_transform_7 (grid0.coords t) = ![0, 0]
    ∧ cc0_transform_8 (grid0.coords t) = ![t.val / 32, 0] := by decide +kernel

/-- Where the blocks of the weights lie at each grid point, and which row of the gates the point reads. -/
theorem idxExpert : ∀ t : Fin grid0.N, cc0_transform_4 (grid0.coords t) = ![t.val % 32, 0, 0] ∧ cc0_transform_5 (grid0.coords t) = ![t.val % 32, 0, 0]
    ∧ cc0_transform_6 (grid0.coords t) = ![t.val % 32, 0, 0] ∧ k0_off1 (grid0.coords t) = ![t.val % 32, 0] := by decide +kernel

variable (m : (ℓ : Loc nD τ sig) → Buf (Elt Ideal) ℓ)

/-- The gain's array is the argument as a row. -/
theorem gain_entry (c : Dev nD) (d : Fin 1024) : V m c main_v21 (ix2 0 d) = m ((c.tc : Thread nD τ).loc main_arg6) (ix1 d) := by
  entry_read
  pointwise

/-- The first weights' array is the argument without its leading axis. -/
theorem wg_entry (c : Dev nD) (e : Fin 32) (k : Fin 1024) (j : Fin 512) : V m c main_v3 (ix3 e k j) = m ((c.tc : Thread nD τ).loc main_arg3) (ix4 0 e k j) := by
  entry_read
  pointwise

/-- The second weights' array likewise. -/
theorem wu_entry (c : Dev nD) (e : Fin 32) (k : Fin 1024) (j : Fin 512) : V m c main_v4 (ix3 e k j) = m ((c.tc : Thread nD τ).loc main_arg4) (ix4 0 e k j) := by
  entry_read
  pointwise

/-- The last weights' array likewise. -/
theorem wd_entry (c : Dev nD) (e : Fin 32) (j : Fin 512) (d : Fin 1024) : V m c main_v5 (ix3 e j d) = m ((c.tc : Thread nD τ).loc main_arg5) (ix4 0 e j d) := by
  entry_read
  pointwise

/-- A row number as a signed word. -/
theorem row_toInt : ∀ a : Fin 1024, (BitVec.ofNat 32 a.val).toInt = (a.val : ℤ) := by decide +kernel

/-- Signed comparison of two row numbers. -/
theorem slt_rows (a b : Fin 1024) : IntOp.cmpi .slt (BitVec.ofNat 32 a.val) (BitVec.ofNat 32 b.val) = BitVec.ofBool (decide (a < b)) := by
  simp only [IntOp.cmpi, BitVec.slt, row_toInt, Fin.lt_def, Nat.cast_lt]

/-- A one-bit flag as a number. -/
theorem flag_unsigned (p : Prop) [Decidable p] : (((BitVec.ofBool (decide p)).toNat : ℝ) : EReal) = if p then 1 else 0 := by
  by_cases h : p <;> simp [h]

/-- The table of earlier rows: one where the first row comes before the second. -/
theorem tri_entry (c : Dev nD) (a b : Fin 1024) : V m c main_v20 (ix2 a b) = (if a < b then 1 else 0 : EReal) := by
  entry_read
  pointwise
  rw [slt_rows]
  exact flag_unsigned _

section Reads

variable (hO : Ok m) (c : Dev nD) (t : Fin (cfgM m hO).N)

/-- The rows' block is the point's tile of their array. -/
theorem read0 (X : Buf (Elt Ideal) ((c.tc : Thread nD τ).loc (Pipeline.arrRef spec0 0))) (r k : Fin 1024) (p : Fin 32768) (hp : p.val = t.val / 32 * 1024 + r.val) :
    (((cfgM m hO).win 0).blk t).view.read (Elt Ideal) X (ix2 r k) = X (ix2 p k) := by
  refine congrArg X (funext fun ax => Fin.ext ?_)
  have h := (idxRows t).1
  fin_cases ax
  · show cc0_transform_0 (grid0.coords t) 0 * 1024 + 1 * r.val = p.val
    rw [h]; show t.val / 32 * 1024 + 1 * r.val = p.val; omega
  · show cc0_transform_0 (grid0.coords t) 1 * 1024 + 1 * k.val = k.val
    rw [h]; show 0 * 1024 + 1 * k.val = k.val; omega

/-- The gates' block is the point's tile of their array. -/
theorem read1 (X : Buf (Elt Ideal) ((c.tc : Thread nD τ).loc (Pipeline.arrRef spec0 1))) (e : Fin 128) (r : Fin 1024) (p : Fin 32768) (hp : p.val = t.val / 32 * 1024 + r.val) :
    (((cfgM m hO).win 1).blk t).view.read (Elt Ideal) X (ix2 e r) = X (ix2 e p) := by
  refine congrArg X (funext fun ax => Fin.ext ?_)
  have h := (idxRows t).2.1
  fin_cases ax
  · show cc0_transform_1 (grid0.coords t) 0 * 128 + 1 * e.val = e.val
    rw [h]; show 0 * 128 + 1 * e.val = e.val; omega
  · show cc0_transform_1 (grid0.coords t) 1 * 1024 + 1 * r.val = p.val
    rw [h]; show t.val / 32 * 1024 + 1 * r.val = p.val; omega

/-- The residual's block is the point's tile of its array. -/
theorem read2 (X : Buf (Elt Ideal) ((c.tc : Thread nD τ).loc (Pipeline.arrRef spec0 2))) (r k : Fin 1024) (p : Fin 32768) (hp : p.val = t.val / 32 * 1024 + r.val) :
    (((cfgM m hO).win 2).blk t).view.read (Elt Ideal) X (ix2 r k) = X (ix2 p k) := by
  refine congrArg X (funext fun ax => Fin.ext ?_)
  have h := (idxRows t).2.2.1
  fin_cases ax
  · show cc0_transform_2 (grid0.coords t) 0 * 1024 + 1 * r.val = p.val
    rw [h]; show t.val / 32 * 1024 + 1 * r.val = p.val; omega
  · show cc0_transform_2 (grid0.coords t) 1 * 1024 + 1 * k.val = k.val
    rw [h]; show 0 * 1024 + 1 * k.val = k.val; omega

/-- The table of earlier rows is one block. -/
theorem read3 (X : Buf (Elt Ideal) ((c.tc : Thread nD τ).loc (Pipeline.arrRef spec0 3))) (a b : Fin 1024) :
    (((cfgM m hO).win 3).blk t).view.read (Elt Ideal) X (ix2 a b) = X (ix2 a b) := by
  refine congrArg X (funext fun ax => Fin.ext ?_)
  have h := (idxRows t).2.2.2.1
  fin_cases ax
  · show cc0_transform_3 (grid0.coords t) 0 * 1024 + 1 * a.val = a.val
    rw [h]; show 0 * 1024 + 1 * a.val = a.val; omega
  · show cc0_transform_3 (grid0.coords t) 1 * 1024 + 1 * b.val = b.val
    rw [h]; show 0 * 1024 + 1 * b.val = b.val; omega

/-- An expert's weights are one block. -/
theorem read4 (X : Buf (Elt Ideal) ((c.tc : Thread nD τ).loc (Pipeline.arrRef spec0 4))) (e : Fin 32) (he : e.val = t.val % 32) (k : Fin 1024) (j : Fin 512) :
    (((cfgM m hO).win 4).blk t).view.read (Elt Ideal) X (ix3 0 k j) = X (ix3 e k j) := by
  refine congrArg X (funext fun ax => Fin.ext ?_)
  have h := (idxExpert t).1
  fin_cases ax
  · show cc0_transform_4 (grid0.coords t) 0 * 1 + 1 * 0 = e.val
    rw [h]; show t.val % 32 * 1 + 1 * 0 = e.val; omega
  · show cc0_transform_4 (grid0.coords t) 1 * 1024 + 1 * k.val = k.val
    rw [h]; show 0 * 1024 + 1 * k.val = k.val; omega
  · show cc0_transform_4 (grid0.coords t) 2 * 512 + 1 * j.val = j.val
    rw [h]; show 0 * 512 + 1 * j.val = j.val; omega

/-- An expert's weights are one block. -/
theorem read5 (X : Buf (Elt Ideal) ((c.tc : Thread nD τ).loc (Pipeline.arrRef spec0 5))) (e : Fin 32) (he : e.val = t.val % 32) (k : Fin 1024) (j : Fin 512) :
    (((cfgM m hO).win 5).blk t).view.read (Elt Ideal) X (ix3 0 k j) = X (ix3 e k j) := by
  refine congrArg X (funext fun ax => Fin.ext ?_)
  have h := (idxExpert t).2.1
  fin_cases ax
  · show cc0_transform_5 (grid0.coords t) 0 * 1 + 1 * 0 = e.val
    rw [h]; show t.val % 32 * 1 + 1 * 0 = e.val; omega
  · show cc0_transform_5 (grid0.coords t) 1 * 1024 + 1 * k.val = k.val
    rw [h]; show 0 * 1024 + 1 * k.val = k.val; omega
  · show cc0_transform_5 (grid0.coords t) 2 * 512 + 1 * j.val = j.val
    rw [h]; show 0 * 512 + 1 * j.val = j.val; omega

/-- An expert's weights are one block. -/
theorem read6 (X : Buf (Elt Ideal) ((c.tc : Thread nD τ).loc (Pipeline.arrRef spec0 6))) (e : Fin 32) (he : e.val = t.val % 32) (k : Fin 512) (j : Fin 1024) :
    (((cfgM m hO).win 6).blk t).view.read (Elt Ideal) X (ix3 0 k j) = X (ix3 e k j) := by
  refine congrArg X (funext fun ax => Fin.ext ?_)
  have h := (idxExpert t).2.2.1
  fin_cases ax
  · show cc0_transform_6 (grid0.coords t) 0 * 1 + 1 * 0 = e.val
    rw [h]; show t.val % 32 * 1 + 1 * 0 = e.val; omega
  · show cc0_transform_6 (grid0.coords t) 1 * 512 + 1 * k.val = k.val
    rw [h]; show 0 * 512 + 1 * k.val = k.val; omega
  · show cc0_transform_6 (grid0.coords t) 2 * 1024 + 1 * j.val = j.val
    rw [h]; show 0 * 1024 + 1 * j.val = j.val; omega

/-- The gain is one block. -/
theorem read7 (X : Buf (Elt Ideal) ((c.tc : Thread nD τ).loc (Pipeline.arrRef spec0 7))) (d : Fin 1024) :
    (((cfgM m hO).win 7).blk t).view.read (Elt Ideal) X (ix2 0 d) = X (ix2 0 d) := by
  refine congrArg X (funext fun ax => Fin.ext ?_)
  have h := (idxRows t).2.2.2.2.1
  fin_cases ax
  · show cc0_transform_7 (grid0.coords t) 0 * 1 + 1 * 0 = 0
    rw [h]; show 0 * 1 + 1 * 0 = 0; omega
  · show cc0_transform_7 (grid0.coords t) 1 * 1024 + 1 * d.val = d.val
    rw [h]; show 0 * 1024 + 1 * d.val = d.val; omega

/-- The rows' block, of the argument. -/
theorem blk0_arg (r k : Fin 1024) (p : Fin 32768) (hp : p.val = t.val / 32 * 1024 + r.val) : blk0 m hO c t (ix2 r k) = m ((c.tc : Thread nD τ).loc main_arg0) (ix2 p k) :=
  (read0 m hO c t (V m c main_arg0) r k p hp).trans (congrFun (show V m c main_arg0 = m ((c.tc : Thread nD τ).loc main_arg0) by entry_read; rfl) _)

/-- The gates' block, of the argument. -/
theorem blk1_arg (e : Fin 128) (r : Fin 1024) (p : Fin 32768) (hp : p.val = t.val / 32 * 1024 + r.val) : blk1 m hO c t (ix2 e r) = m ((c.tc : Thread nD τ).loc main_arg1) (ix2 e p) :=
  (read1 m hO c t (V m c main_arg1) e r p hp).trans (congrFun (show V m c main_arg1 = m ((c.tc : Thread nD τ).loc main_arg1) by entry_read; rfl) _)

/-- The residual's block, of the argument. -/
theorem blk2_arg (r k : Fin 1024) (p : Fin 32768) (hp : p.val = t.val / 32 * 1024 + r.val) : blk2 m hO c t (ix2 r k) = m ((c.tc : Thread nD τ).loc main_arg2) (ix2 p k) :=
  (read2 m hO c t (V m c main_arg2) r k p hp).trans (congrFun (show V m c main_arg2 = m ((c.tc : Thread nD τ).loc main_arg2) by entry_read; rfl) _)

/-- The table of earlier rows. -/
theorem blk3_arg (a b : Fin 1024) : blk3 m hO c t (ix2 a b) = (if a < b then 1 else 0 : EReal) :=
  (read3 m hO c t (V m c main_v20) a b).trans (tri_entry m c a b)

/-- The first weights' block, of the argument. -/
theorem blk4_arg (e : Fin 32) (he : e.val = t.val % 32) (k : Fin 1024) (j : Fin 512) : blk4 m hO c t (ix3 0 k j) = m ((c.tc : Thread nD τ).loc main_arg3) (ix4 0 e k j) :=
  (read4 m hO c t (V m c main_v3) e he k j).trans (wg_entry m c e k j)

/-- The second weights' block, of the argument. -/
theorem blk5_arg (e : Fin 32) (he : e.val = t.val % 32) (k : Fin 1024) (j : Fin 512) : blk5 m hO c t (ix3 0 k j) = m ((c.tc : Thread nD τ).loc main_arg4) (ix4 0 e k j) :=
  (read5 m hO c t (V m c main_v4) e he k j).trans (wu_entry m c e k j)

/-- The last weights' block, of the argument. -/
theorem blk6_arg (e : Fin 32) (he : e.val = t.val % 32) (j : Fin 512) (d : Fin 1024) : blk6 m hO c t (ix3 0 j d) = m ((c.tc : Thread nD τ).loc main_arg5) (ix4 0 e j d) :=
  (read6 m hO c t (V m c main_v5) e he j d).trans (wd_entry m c e j d)

/-- The gain's block, of the argument. -/
theorem blk7_arg (d : Fin 1024) : blk7 m hO c t (ix2 0 d) = m ((c.tc : Thread nD τ).loc main_arg6) (ix1 d) :=
  (read7 m hO c t (V m c main_v21) d).trans (gain_entry m c d)

end Reads

/-- The row of the gates or of the ranks a point reads is its expert's. -/
theorem rowOf_apply (t : Fin grid0.N) (X : FVec Ideal S128x1024 .f32) (e : Fin 128) (he : e.val = t.val % 32) (r : Fin 1024) :
    rowOf (F := Ideal) (grid0.coords t) X (ix2 0 r) = X (ix2 e r) := by
  refine congrArg X (funext fun ax => Fin.ext ?_)
  have h := (idxExpert t).2.2.2
  fin_cases ax
  · show k0_off1 (grid0.coords t) 0 + 1 * 0 = e.val
    rw [h]; show t.val % 32 + 1 * 0 = e.val; omega
  · show k0_off1 (grid0.coords t) 1 + 1 * r.val = r.val
    rw [h]; show 0 + 1 * r.val = r.val; omega

end Cert.KernelIdeal.Moe
-- ==== Proof.MoeI.Plain.lean ====
/- The plain program's expert mixture, read at one row and one column: over the experts, the sum of the expert's product on the
   row times the row's gate where the gate is above zero. -/
module

public import proofs.«01_k».proof.Proof.MoeI.Dispatch
public import proofs.«01_k».proof.Proof.Gen.ReferenceIdeal.Run
public import Idealize.ShloMosaic.Lib.Pointwise

@[expose] public section

set_option maxRecDepth 16384

noncomputable section

namespace Cert.ReferenceIdeal.Moe

open Idealize Idealize.ShloMosaic Idealize.ShloMosaic.TcCoe
open Cert.ReferenceIdeal Cert.ReferenceIdeal.Gen
open Cert.KernelIdeal.Moe (ffn)

/-- Every expert's first product with every row. -/
def up (x : FVec Ideal S32768x1024 .bf16) (w : FVec Ideal S1x32x1024x512 .f32) : FVec Ideal S32x32768x512 .f32 :=
  transpose S32x32768x512 [0, 2, 1] (Host.dotGeneral dot_S32x1024x512_S32768x1024_S32x512x32768_1_1_02_0_n_n none
    (shapeCast S32x1024x512 w shapeCasts_S1x32x1024x512_S32x1024x512) (extf .f32 x bitsLt_bf16_f32)) transposes_S32x512x32768_S32x32768x512_0_2_1

/-- An element times its logistic. -/
def silu (u : FVec Ideal S32x32768x512 .f32) : FVec Ideal S32x32768x512 .f32 :=
  mulf u (Host.divf (broadcastInDim S32x32768x512 ![] bcast_S_S32x32768x512 (constant S_ .f32 0x3F800000#32))
    (addf (broadcastInDim S32x32768x512 ![] bcast_S_S32x32768x512 (constant S_ .f32 0x3F800000#32)) (Host.exp (Host.negf u))))

/-- Every expert's product on every row. -/
def outs (x : FVec Ideal S32768x1024 .bf16) (wg wu : FVec Ideal S1x32x1024x512 .f32) (wd : FVec Ideal S1x32x512x1024 .f32) : FVec Ideal S32x32768x1024 .f32 :=
  Host.dotGeneral dot_S32x32768x512_S32x512x1024_S32x32768x1024_2_1_1_2_0_0 none (mulf (silu (up x wg)) (up x wu))
    (shapeCast S32x512x1024 wd shapeCasts_S1x32x512x1024_S32x512x1024)

/-- The gates, zero where they are not above zero. -/
def gates (g : FVec Ideal S128x32768 .f32) : FVec Ideal S32x32768 .f32 :=
  select (cmpf .ogt (extractStridedSlice S32x32768 ![0, 0] g slices_S128x32768_S32x32768_0_0) (broadcastInDim S32x32768 ![] bcast_S_S32x32768 (constant S_ .f32 0x00000000#32)))
    (extractStridedSlice S32x32768 ![0, 0] g slices_S128x32768_S32x32768_0_0) (broadcastInDim S32x32768 ![] bcast_S_S32x32768 (id (constant S_ .f32 0x00000000#32)))

/-- The experts' products times the gates, summed over the experts. -/
def mixture (x : FVec Ideal S32768x1024 .bf16) (g : FVec Ideal S128x32768 .f32) (wg wu : FVec Ideal S1x32x1024x512 .f32) (wd : FVec Ideal S1x32x512x1024 .f32) :
    FVec Ideal S32768x1024 .f32 :=
  Host.reduceAdd (mulf (outs x wg wu wd) (broadcastInDim S32x32768x1024 ![0, 1, 2] bcast_S32x32768x1_S32x32768x1024_0_1_2
    (broadcastInDim S32x32768x1 ![0, 1] bcast_S32x32768_S32x32768x1_0_1 (gates g)))) (constant S_ .f32 0x00000000#32) reducesTo_S32x32768x1024_S32768x1024_d0 h_S_

/-- The rows divided by their root mean square and multiplied by the gain. -/
def normed (y : FVec Ideal S32768x1024 .f32) (gf : FVec Ideal S1024 .f32) : FVec Ideal S32768x1024 .f32 :=
  mulf (mulf y (broadcastInDim S32768x1024 ![0, 1] bcast_S32768x1_S32768x1024_0_1 (Host.rsqrt (addf (Host.divf (broadcastInDim S32768x1 ![0] bcast_S32768_S32768x1_0
    (Host.reduceAdd (mulf y y) (constant S_ .f32 0x00000000#32) reducesTo_S32768x1024_S32768_d1 h_S_)) (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 gf))

/-- The plain program's result is the normalised sum of the residual and the mixture. -/
theorem result_eq (m : (ℓ : Loc nD τ sig) → Buf (Elt Ideal) ℓ) (c : Dev nD) : Cert.ReferenceIdeal.Value.res_main_v32 (F := Ideal) m c
    = normed (addf (m ((c.tc : Thread nD τ).loc main_arg2)) (mixture (m ((c.tc : Thread nD τ).loc main_arg0)) (m ((c.tc : Thread nD τ).loc main_arg1))
        (m ((c.tc : Thread nD τ).loc main_arg3)) (m ((c.tc : Thread nD τ).loc main_arg4)) (m ((c.tc : Thread nD τ).loc main_arg5))))
      (m ((c.tc : Thread nD τ).loc main_arg6)) := rfl

/-- One element of a first product. -/
theorem up_apply (x : FVec Ideal S32768x1024 .bf16) (w : FVec Ideal S1x32x1024x512 .f32) (e : Fin 32) (p : Fin 32768) (j : Fin 512) :
    up x w (ix3 e p j) = ∑ k : Fin 1024, x (ix2 p k) * w (ix4 0 e k j) := by
  have h : up x w (ix3 e p j) = ∑ k : Fin 1024, w (ix4 0 e k j) * x (ix2 p k) := by
    pointwise [up]
  rw [h]
  exact Finset.sum_congr rfl fun k _ => mul_comm _ _

/-- One element of the gated product. -/
theorem silu_apply (u : FVec Ideal S32x32768x512 .f32) (e : Fin 32) (p : Fin 32768) (j : Fin 512) :
    silu u (ix3 e p j) = u (ix3 e p j) * Ideal.logistic (u (ix3 e p j)) := by
  pointwise [silu]
  rfl

/-- One element of an expert's product. -/
theorem outs_apply (x : FVec Ideal S32768x1024 .bf16) (wg wu : FVec Ideal S1x32x1024x512 .f32) (wd : FVec Ideal S1x32x512x1024 .f32) (e : Fin 32) (p : Fin 32768)
    (d : Fin 1024) : outs x wg wu wd (ix3 e p d) = ∑ j : Fin 512, silu (up x wg) (ix3 e p j) * up x wu (ix3 e p j) * wd (ix4 0 e j d) := by
  pointwise [outs]

/-- One gate. -/
theorem gates_apply (g : FVec Ideal S128x32768 .f32) (e : Fin 32) (p : Fin 32768) :
    gates g (ix2 e p) = if 0 < g (ix2 ⟨e.val, by omega⟩ p) then g (ix2 ⟨e.val, by omega⟩ p) else 0 := by
  pointwise [gates]
  exact congrArg (fun z : EReal => if 0 < g (ix2 (⟨e.val, by omega⟩ : Fin 128) p) then g (ix2 (⟨e.val, by omega⟩ : Fin 128) p) else z) Ideal.ofBits_zero_f32

/-- What an expert adds to a row: its product on the row times the gate where the gate is above zero, nothing elsewhere. -/
def share (x : FVec Ideal S32768x1024 .bf16) (g : FVec Ideal S128x32768 .f32) (wg wu : FVec Ideal S1x32x1024x512 .f32) (wd : FVec Ideal S1x32x512x1024 .f32)
    (e : Fin 32) (p : Fin 32768) (d : Fin 1024) : EReal :=
  if 0 < g (ix2 ⟨e.val, by omega⟩ p) then
    ffn (fun k => x (ix2 p k)) (fun k j => wg (ix4 0 e k j)) (fun k j => wu (ix4 0 e k j)) (fun j d => wd (ix4 0 e j d)) d * g (ix2 ⟨e.val, by omega⟩ p)
  else 0

/-- One element of the mixture is the sum of the experts' shares. -/
theorem mixture_apply (x : FVec Ideal S32768x1024 .bf16) (g : FVec Ideal S128x32768 .f32) (wg wu : FVec Ideal S1x32x1024x512 .f32) (wd : FVec Ideal S1x32x512x1024 .f32)
    (p : Fin 32768) (d : Fin 1024) : mixture x g wg wu wd (ix2 p d) = ∑ e : Fin 32, share x g wg wu wd e p d := by
  have h : mixture x g wg wu wd (ix2 p d) = ∑ e : Fin 32, outs x wg wu wd (ix3 e p d) * gates g (ix2 e p) := by
    pointwise [mixture]
  rw [h]
  refine Finset.sum_congr rfl fun e _ => ?_
  rw [outs_apply, gates_apply]
  simp only [silu_apply, up_apply]
  unfold share
  split
  · rfl
  · rw [mul_zero]

/-- One normalised element. -/
theorem normed_apply (y : FVec Ideal S32768x1024 .f32) (gf : FVec Ideal S1024 .f32) (p : Fin 32768) (d : Fin 1024) :
    normed y gf (ix2 p d) = y (ix2 p d) * Ideal.rsqrt (Ideal.div (∑ l : Fin 1024, y (ix2 p l) * y (ix2 p l)) (Ideal.ofBits FTy.f32 0x44800000#32)
      + Ideal.ofBits FTy.f32 0x358637BD#32) * gf (ix1 d) := by
  pointwise [normed]

end Cert.ReferenceIdeal.Moe
-- ==== Proof.MoeI.Sum.lean ====
/- The accumulator over a tile's experts: after expert `e` it is the sum of the shares of experts `0 … e`, and the last expert
   stores the plain program's rows. -/
module

public import proofs.«01_k».proof.Proof.MoeI.Blocks
public import proofs.«01_k».proof.Proof.MoeI.Plain

@[expose] public section

set_option maxRecDepth 16384

noncomputable section

namespace Cert.KernelIdeal.Moe

open Idealize Idealize.ShloMosaic Idealize.ShloMosaic.Pipeline Idealize.ShloMosaic.TcCoe
open Cert.KernelIdeal Cert.KernelIdeal.Gen
open Cert.ReferenceIdeal.Moe (share mixture mixture_apply normed normed_apply)

variable (m : (ℓ : Loc nD τ sig) → Buf (Elt Ideal) ℓ) (c : Dev nD)

/-- What an expert adds to a row, of the call's own arguments. -/
def shareAt (e : Fin 32) (p : Fin 32768) (d : Fin 1024) : EReal :=
  share (m ((c.tc : Thread nD τ).loc main_arg0)) (m ((c.tc : Thread nD τ).loc main_arg1)) (m ((c.tc : Thread nD τ).loc main_arg3))
    (m ((c.tc : Thread nD τ).loc main_arg4)) (m ((c.tc : Thread nD τ).loc main_arg5)) e p d

/-- Row `r` of tile `i`. -/
def rowIn (i : Fin 32) (r : Fin 1024) : Fin 32768 := ⟨i.val * 1024 + r.val, by omega⟩

/-- The gates of tile `i` for row `e` of the gates' array. -/
def tileGate (i : Fin 32) (e : Fin 128) (r : Fin 1024) : EReal := m ((c.tc : Thread nD τ).loc main_arg1) (ix2 e (rowIn i r))

/-- A sum of zeros and ones is a count. -/
theorem sum_flags (p : Fin 1024 → Prop) [DecidablePred p] : (∑ x : Fin 1024, if p x then (1 : EReal) else 0) = ((Finset.univ.filter p).card : EReal) := by
  rw [← Finset.sum_filter, Finset.sum_const, nsmul_one]

/-- The ranks computed at a point are the numbers of earlier chosen rows of its tile. -/
theorem ranks_apply (hO : Ok m) (t : Fin (cfgM m hO).N) (i : Fin 32) (hi : i.val = t.val / 32) (e : Fin 128) (r : Fin 1024) :
    k0_pay7 (F := Ideal) (blk1 m hO c t) (blk3 m hO c t) (ix2 e r) = (before (tileGate m c i e) r : EReal) := by
  have hp : ∀ x : Fin 1024, (rowIn i x).val = t.val / 32 * 1024 + x.val := fun x => by
    show i.val * 1024 + x.val = _
    rw [hi]
  rw [rank_apply]
  refine Eq.trans (Finset.sum_congr rfl fun x _ => ?_) (sum_flags fun x => 0 < tileGate m c i e x ∧ x < r)
  rw [blk1_arg m hO c t e x (rowIn i x) (hp x), blk3_arg m hO c t x r]
  show (if 0 < tileGate m c i e x then (1 : EReal) else 0) * (if x < r then 1 else 0) = _
  by_cases h0 : 0 < tileGate m c i e x <;> by_cases h1 : x < r <;> simp [h0, h1]

/-- Every gate row read from the table is chosen where its gate is above zero. -/
theorem given_iff (g : FVec Ideal S128x32768 .f32) (e : Fin 32) (p : Fin 32768) : given (F := Ideal) g e p = 1#1 ↔ 0 < g (ix2 ⟨e.val, by omega⟩ p) := by
  have h : given (F := Ideal) g e p = BitVec.ofBool (decide (0 < g (ix2 ⟨e.val, by omega⟩ p))) := by
    pointwise [given]
  rw [h]
  by_cases h' : 0 < g (ix2 (⟨e.val, by omega⟩ : Fin 128) p) <;> simp [h']

/-- The count a point reads is the number of chosen rows of its tile. -/
theorem count_eq (hO : Ok m) (t : Fin (cfgM m hO).N) (i : Fin 32) (hi : i.val = t.val / 32) (e : Fin 128) (he : e.val = t.val % 32) :
    cntAt m hO c t = BitVec.ofNat 32 (chosen (tileGate m c i e)) := by
  obtain rfl : c = 0 := Subsingleton.elim _ _
  have hN : t.val < 1024 := lt_of_lt_of_eq t.isLt N_0
  rw [cnt_eq m hO 0 t ⟨t.val, hN⟩ rfl, counts_apply]
  refine congrArg (fun s : Finset (Fin 1024) => BitVec.ofNat 32 s.card) (Finset.filter_congr fun r _ => ?_)
  rw [given_iff]
  have h1 : (⟨t.val % 32, by omega⟩ : Fin 128) = e := Fin.ext he.symm
  have h2 : (⟨t.val / 32 * 1024 + r.val, by omega⟩ : Fin 32768) = rowIn i r := Fin.ext (by show t.val / 32 * 1024 + r.val = i.val * 1024 + r.val; rw [hi])
  show (0 : EReal) < m (((0 : Dev nD).tc : Thread nD τ).loc main_arg1) (ix2 (⟨t.val % 32, by omega⟩ : Fin 128) (⟨t.val / 32 * 1024 + r.val, by omega⟩ : Fin 32768)) ↔ _
  rw [h1, h2]
  rfl

/-- One point adds its expert's shares to the accumulator. -/
theorem accAfter_apply (hO : Ok m) (t : Fin (cfgM m hO).N) (i e : Fin 32) (hi : i.val = t.val / 32) (he : e.val = t.val % 32) (a : FVec Ideal S1024x1024 .f32)
    (rk : FVec Ideal S128x1024 .f32) (hrk : ∀ (e' : Fin 128) (r : Fin 1024), rk (ix2 e' r) = (before (tileGate m c i e') r : EReal)) (r d : Fin 1024) :
    accAfter (F := Ideal) (grid0.coords t) (blk0 m hO c t) (blk1 m hO c t) (blk4 m hO c t) (blk5 m hO c t) (blk6 m hO c t) (cntAt m hO c t) a rk (ix2 r d)
      = a (ix2 r d) + shareAt m c e (rowIn i r) d := by
  have hp : ∀ x : Fin 1024, (rowIn i x).val = t.val / 32 * 1024 + x.val := fun x => by
    show i.val * 1024 + x.val = _
    rw [hi]
  have he' : (⟨e.val, by omega⟩ : Fin 128).val = t.val % 32 := he
  have hg : gateAt (rowOf (F := Ideal) (grid0.coords t) (blk1 m hO c t)) = tileGate m c i ⟨e.val, by omega⟩ := funext fun x =>
    (rowOf_apply t (blk1 m hO c t) ⟨e.val, by omega⟩ he' x).trans (blk1_arg m hO c t _ x (rowIn i x) (hp x))
  unfold accAfter
  refine (passes_all (rowOf (F := Ideal) (grid0.coords t) (blk1 m hO c t)) (rowOf (F := Ideal) (grid0.coords t) rk) (blk0 m hO c t) (blk4 m hO c t) (blk5 m hO c t)
    (blk6 m hO c t) (fun x => ?_) a (cntAt m hO c t) ?_ r d).trans ?_
  · rw [hg]
    exact (rowOf_apply t rk ⟨e.val, by omega⟩ he' x).trans (hrk _ x)
  · rw [hg]
    exact count_eq m c hO t i hi _ he'
  · refine congrArg (a (ix2 r d) + ·) ?_
    unfold owed
    rw [hg]
    simp only [blk0_arg m hO c t _ _ _ (hp r), blk4_arg m hO c t e he, blk5_arg m hO c t e he, blk6_arg m hO c t e he]
    rfl

/-- The first point of a tile starts from zero. -/
theorem zeros_apply (r d : Fin 1024) : k0_pay6 (F := Ideal) (ix2 r d) = 0 := by
  pointwise [k0_pay6]

/-- The first point of a tile: zeros and fresh ranks. -/
theorem sv_first (hO : Ok m) : ∀ (n : ℕ) (h : n < (cfgM m hO).N), n % 32 = 0 → sv m hO c n h
    = (accAfter (F := Ideal) (grid0.coords (⟨n, h⟩ : Fin (cfgM m hO).N)) (blk0 m hO c ⟨n, h⟩) (blk1 m hO c ⟨n, h⟩) (blk4 m hO c ⟨n, h⟩) (blk5 m hO c ⟨n, h⟩) (blk6 m hO c ⟨n, h⟩)
        (cntAt m hO c ⟨n, h⟩) (k0_pay6 (F := Ideal)) (k0_pay7 (F := Ideal) (blk1 m hO c ⟨n, h⟩) (blk3 m hO c ⟨n, h⟩)),
      k0_pay7 (F := Ideal) (blk1 m hO c ⟨n, h⟩) (blk3 m hO c ⟨n, h⟩)) := by
  intro n h hn
  have hc : (grid0.coords (⟨n, h⟩ : Fin (cfgM m hO).N) 1).val = 0 := by
    rw [coords1]
    exact hn
  have hr : ∀ x, rankAfter m hO c ⟨n, h⟩ x = k0_pay7 (F := Ideal) (blk1 m hO c ⟨n, h⟩) (blk3 m hO c ⟨n, h⟩) := fun x => if_pos hc
  have ha : ∀ x, accIn m hO ⟨n, h⟩ x = k0_pay6 (F := Ideal) := fun x => if_pos hc
  have hs : ∀ x, step m hO c ⟨n, h⟩ x = (accAfter (F := Ideal) (grid0.coords (⟨n, h⟩ : Fin (cfgM m hO).N)) (blk0 m hO c ⟨n, h⟩) (blk1 m hO c ⟨n, h⟩) (blk4 m hO c ⟨n, h⟩) (blk5 m hO c ⟨n, h⟩) (blk6 m hO c ⟨n, h⟩)
        (cntAt m hO c ⟨n, h⟩) (k0_pay6 (F := Ideal)) (k0_pay7 (F := Ideal) (blk1 m hO c ⟨n, h⟩) (blk3 m hO c ⟨n, h⟩)),
      k0_pay7 (F := Ideal) (blk1 m hO c ⟨n, h⟩) (blk3 m hO c ⟨n, h⟩)) := fun x => by
    unfold step
    rw [hr, ha]
  cases n with
  | zero => exact hs _
  | succ n => exact hs _

/-- A sum up to an expert plus the next expert's term. -/
theorem sum_next (f : Fin 32 → EReal) (n : ℕ) (hn : n + 1 < 32) :
    (∑ e : Fin 32, if e.val ≤ n then f e else 0) + f ⟨n + 1, hn⟩ = ∑ e : Fin 32, if e.val ≤ n + 1 then f e else 0 := by
  have h : f ⟨n + 1, hn⟩ = ∑ e : Fin 32, if e = ⟨n + 1, hn⟩ then f e else 0 := by simp
  rw [h, ← Finset.sum_add_distrib]
  refine Finset.sum_congr rfl fun e _ => ?_
  by_cases h1 : e.val ≤ n
  · rw [if_pos h1, if_neg (fun h => by rw [h] at h1; simp at h1), if_pos (by omega), add_zero]
  · by_cases h2 : e.val = n + 1
    · rw [if_neg h1, if_pos (Fin.ext h2), if_pos (by omega), zero_add]
    · rw [if_neg h1, if_neg (fun h => h2 (by rw [h])), if_neg (by omega), add_zero]

/-- The sum up to the first expert is its term. -/
theorem sum_first (f : Fin 32 → EReal) : (∑ e : Fin 32, if e.val ≤ 0 then f e else 0) = f 0 := by
  rw [Finset.sum_eq_single (0 : Fin 32)]
  · exact if_pos le_rfl
  · intro e _ he
    exact if_neg fun h => he (Fin.ext (Nat.le_zero.mp h))
  · exact fun h => absurd (Finset.mem_univ _) h

/-- After expert `e` of tile `i`: the accumulator is the sum of the shares so far, and the ranks are the tile's. -/
theorem sv_apply (hO : Ok m) (i : Fin 32) : ∀ (n : ℕ) (hn : n < 32) (h : 32 * i.val + n < (cfgM m hO).N),
    (∀ r d : Fin 1024, (sv m hO c (32 * i.val + n) h).1 (ix2 r d) = ∑ e : Fin 32, if e.val ≤ n then shareAt m c e (rowIn i r) d else 0)
    ∧ ∀ (e' : Fin 128) (r : Fin 1024), (sv m hO c (32 * i.val + n) h).2 (ix2 e' r) = (before (tileGate m c i e') r : EReal)
  | 0, hn, h => by
    have hi : i.val = (32 * i.val + 0) / 32 := by omega
    have hz : (0 : Fin 32).val = (32 * i.val + 0) % 32 := by show 0 = _; omega
    have hR : ∀ (e' : Fin 128) (r : Fin 1024), k0_pay7 (F := Ideal) (blk1 m hO c ⟨32 * i.val + 0, h⟩) (blk3 m hO c ⟨32 * i.val + 0, h⟩) (ix2 e' r)
        = (before (tileGate m c i e') r : EReal) := fun e' r => ranks_apply m c hO ⟨32 * i.val + 0, h⟩ i hi e' r
    rw [sv_first m c hO (32 * i.val + 0) h (by omega)]
    refine ⟨fun r d => ?_, hR⟩
    refine (accAfter_apply m c hO ⟨32 * i.val + 0, h⟩ i 0 hi hz _ _ hR r d).trans ?_
    rw [zeros_apply, zero_add]
    exact (sum_first fun e => shareAt m c e (rowIn i r) d).symm
  | n + 1, hn, h => by
    obtain ⟨ihA, ihR⟩ := sv_apply hO i n (Nat.lt_of_succ_lt hn) (Nat.lt_of_succ_lt h)
    have hc : ¬ (grid0.coords (⟨32 * i.val + n + 1, h⟩ : Fin (cfgM m hO).N) 1).val = 0 := by
      rw [coords1]
      show ¬ (32 * i.val + n + 1) % 32 = 0
      omega
    have hr : rankAfter m hO c ⟨32 * i.val + n + 1, h⟩ (sv m hO c (32 * i.val + n) (Nat.lt_of_succ_lt h)).2 = (sv m hO c (32 * i.val + n) (Nat.lt_of_succ_lt h)).2 := if_neg hc
    have ha : accIn m hO ⟨32 * i.val + n + 1, h⟩ (sv m hO c (32 * i.val + n) (Nat.lt_of_succ_lt h)).1 = (sv m hO c (32 * i.val + n) (Nat.lt_of_succ_lt h)).1 := if_neg hc
    show (∀ r d : Fin 1024, (step m hO c ⟨32 * i.val + n + 1, h⟩ (sv m hO c (32 * i.val + n) (Nat.lt_of_succ_lt h))).1 (ix2 r d) = _)
      ∧ ∀ (e' : Fin 128) (r : Fin 1024), (step m hO c ⟨32 * i.val + n + 1, h⟩ (sv m hO c (32 * i.val + n) (Nat.lt_of_succ_lt h))).2 (ix2 e' r) = _
    unfold step
    rw [hr, ha]
    refine ⟨fun r d => ?_, ihR⟩
    refine (accAfter_apply m c hO ⟨32 * i.val + n + 1, h⟩ i ⟨n + 1, hn⟩ (by show i.val = (32 * i.val + n + 1) / 32; omega)
      (by show n + 1 = (32 * i.val + n + 1) % 32; omega) _ _ ihR r d).trans ?_
    rw [ihA]
    exact sum_next (fun e => shareAt m c e (rowIn i r) d) n hn

/-- The plain program's result, of the call's own arguments. -/
def plainAt : FVec Ideal Cert.ReferenceIdeal.S32768x1024 .f32 :=
  normed (addf (m ((c.tc : Thread nD τ).loc main_arg2)) (mixture (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg5))))
    (m ((c.tc : Thread nD τ).loc main_arg6))

/-- The rows the last expert of a tile stores are the plain program's. -/
theorem out_apply (hO : Ok m) (t : Fin (cfgM m hO).N) (ht : t.val % 32 = 31) (r d : Fin 1024) (p : Fin 32768) (hp : p.val = t.val / 32 * 1024 + r.val) :
    outAt m hO c t (ix2 r d) = plainAt m c (ix2 p d) := by
  have hN : t.val < 1024 := lt_of_lt_of_eq t.isLt N_0
  obtain ⟨n, hn⟩ := t
  have hN' : n < 1024 := hN
  have hlt : n / 32 < 32 := by omega
  have he : n = 32 * (⟨n / 32, hlt⟩ : Fin 32).val + 31 := by
    show n = 32 * (n / 32) + 31
    have : n % 32 = 31 := ht
    omega
  have hrow : rowIn ⟨n / 32, hlt⟩ r = p := Fin.ext hp.symm
  have hsum : ∀ l : Fin 1024, (sv m hO c n hn).1 (ix2 r l) = ∑ e : Fin 32, shareAt m c e p l := by
    intro l
    have h := (sv_apply m c hO ⟨n / 32, hlt⟩ 31 (by norm_num) (he ▸ hn)).1 r l
    rw [hrow] at h
    have h' : (sv m hO c n hn).1 = (sv m hO c (32 * (⟨n / 32, hlt⟩ : Fin 32).val + 31) (he ▸ hn)).1 := by congr 1; congr 1
    rw [h', h]
    exact Finset.sum_congr rfl fun e _ => if_pos (by omega)
  unfold outAt
  refine (final_apply _ _ _ r d).trans ?_
  unfold plainAt
  refine Eq.trans ?_ (normed_apply _ _ p d).symm
  have hrowsum : ∀ l : Fin 1024, blk2 m hO c ⟨n, hn⟩ (ix2 r l) + (sv m hO c n hn).1 (ix2 r l)
      = addf (F := Ideal) (φ := .f32) (s := Cert.ReferenceIdeal.S32768x1024) (m ((c.tc : Thread nD τ).loc main_arg2)) (mixture (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg5))) (ix2 p l) := by
    intro l
    rw [hsum l, blk2_arg m hO c ⟨n, hn⟩ r l p hp]
    refine Eq.symm ?_
    show _ + mixture _ _ _ _ _ (ix2 p l) = _
    rw [mixture_apply]
    rfl
  rw [blk7_arg]
  simp only [hrowsum]

end Cert.KernelIdeal.Moe
-- ==== Proof.MoeP.Count.lean ====
/- The loop bounds of the expert call: a count of at most 1024 rows takes (count + 127) / 128 passes, and the passes left
   after them are none. -/
module

public import proofs.«01_k».proof.Proof.MoeP.Run

@[expose] public section

set_option maxRecDepth 16384

namespace Cert.Kernel.Moe

open Idealize Idealize.ShloMosaic
open Cert.Kernel Cert.Kernel.Gen

/-- For a count of at most 1024 both loops' bounds are in range, and the first makes one trip per started 128 rows. -/
theorem bounds : ∀ n : Fin 1025, ((k0_t1_loop (BitVec.ofNat 32 n.val)).OK ∧ (k0_t2_loop (BitVec.ofNat 32 n.val)).OK)
    ∧ (k0_t1_loop (BitVec.ofNat 32 n.val)).trips = (n.val + 127) / 128 := by
  decide +kernel

/-- The side condition of the body holds at every count of at most 1024. -/
theorem chk_of_count (n : ℕ) (hn : n ≤ 1024) : k0_chk1 (BitVec.ofNat 32 n) := (bounds ⟨n, by omega⟩).1

/-- The number of passes at a count of at most 1024. -/
theorem trips_of_count (n : ℕ) (hn : n ≤ 1024) : (k0_t1_loop (BitVec.ofNat 32 n)).trips = (n + 127) / 128 := (bounds ⟨n, by omega⟩).2

end Cert.Kernel.Moe
-- ==== Proof.MoeI.Claims.lean ====
/- The claims about the expert call: the array it leaves, its runs, and its result against the plain program's. -/
module

public import proofs.«01_k».proof.Defs
public import proofs.«01_k».proof.Proof.MoeI.Sum
public import proofs.«01_k».proof.Proof.MoeP.Table
public import Idealize.ShloMosaic.Lib.Claim
public import Idealize.ShloMosaic.Lib.Quiescent

@[expose] public section

set_option maxRecDepth 16384

noncomputable section

namespace Cert.KernelIdeal.Moe

open Idealize Idealize.ShloMosaic Idealize.ShloMosaic.Pipeline Idealize.ShloMosaic.TcCoe Idealize.SL.Sem
open Cert.KernelIdeal Cert.KernelIdeal.Gen

attribute [local instance] Cert.Kernel.Gen.facts Cert.KernelIdeal.Gen.facts Cert.ReferenceIdeal.Gen.facts

section Array

variable (m : (ℓ : Loc nD τ sig) → Buf (Elt Ideal) ℓ) (c : Dev nD)

/-- Which rows of the result's array block `t` covers. -/
theorem out_place (hO : Ok m) (t : Fin (cfgM m hO).N) (X : FVec Ideal S32768x1024 .f32) (r d : Fin 1024) (p : Fin 32768) (hp : p.val = t.val / 32 * 1024 + r.val) :
    (((cfgM m hO).win 8).blk t).view.read (Elt Ideal) X (ix2 r d) = X (ix2 p d) := by
  refine congrArg X (funext fun ax => Fin.ext ?_)
  have h := (idxRows t).2.2.2.2.2
  fin_cases ax
  · show cc0_transform_8 (grid0.coords t) 0 * 1024 + 1 * r.val = p.val
    rw [h]; show t.val / 32 * 1024 + 1 * r.val = p.val; omega
  · show cc0_transform_8 (grid0.coords t) 1 * 1024 + 1 * d.val = d.val
    rw [h]; show 0 * 1024 + 1 * d.val = d.val; omega

/-- The blocks the last experts store cover the result's array. -/
theorem out_covers (hO : Ok m) : ((cfgM m hO).win 8).Covers := by
  refine ⟨fun a => by revert a; show ∀ a : Fin 2, 0 < S1024x1024.size a; decide, fun β => ?_⟩
  have h0 : (β (0 : Fin 2)).val < 32 := lt_of_lt_of_eq (β (0 : Fin 2)).isLt (show (32768 + 1024 - 1) / 1024 = 32 by norm_num)
  have h1 : (β (1 : Fin 2)).val < 1 := lt_of_lt_of_eq (β (1 : Fin 2)).isLt (show (1024 + 1024 - 1) / 1024 = 1 by norm_num)
  have hN : (cfgM m hO).N = 1024 := N_0
  have hlt : 32 * (β (0 : Fin 2)).val + 31 < (cfgM m hO).N := by omega
  refine ⟨⟨32 * (β (0 : Fin 2)).val + 31, hlt⟩, (flush0_8 (adm m hO) ⟨32 * (β (0 : Fin 2)).val + 31, hlt⟩).mpr (by show (32 * (β (0 : Fin 2)).val + 31) % 32 = 31; omega), fun a => ⟨?_, Or.inl rfl⟩⟩
  have h := (idxRows ⟨32 * (β (0 : Fin 2)).val + 31, hlt⟩).2.2.2.2.2
  have ha : ∀ a : Fin 2, cc0_transform_8 (grid0.coords ⟨32 * (β (0 : Fin 2)).val + 31, hlt⟩) a = (β a).val := fun a => by
    fin_cases a
    · show cc0_transform_8 (grid0.coords ⟨32 * (β (0 : Fin 2)).val + 31, hlt⟩) 0 = (β (0 : Fin 2)).val
      rw [h]; show (32 * (β (0 : Fin 2)).val + 31) / 32 = (β (0 : Fin 2)).val; omega
    · show cc0_transform_8 (grid0.coords ⟨32 * (β (0 : Fin 2)).val + 31, hlt⟩) 1 = (β (1 : Fin 2)).val
      rw [h]; show 0 = (β (1 : Fin 2)).val; omega
  exact ha a

/-- The array the call leaves is the plain program's result. -/
theorem array (hO : Ok m) (hH : Hyps m hO) : (dats m hO hH 0 c).arrAt 8 (cfgM m hO).N = plainAt m c := by
  refine (dats m hO hH 0 c).arrAt_eq_of_covers 8 _ (out_covers m hO) fun t hf y => ?_
  blk_simp
  have ht : t.val % 32 = 31 := (flush0_8 (adm m hO) t).mp hf
  have hN : t.val < 1024 := lt_of_lt_of_eq t.isLt N_0
  have key : ∀ z : S1024x1024.Idx, outAt m hO c t z = (((cfgM m hO).win 8).blk t).view.read (Elt Ideal) (plainAt m c) z := fun z => by
    have h0 : (z 0).val < 1024 := (z 0).isLt
    have h1 : (z 1).val < 1024 := (z 1).isLt
    have hz : z = ix2 (⟨(z 0).val, h0⟩ : Fin 1024) (⟨(z 1).val, h1⟩ : Fin 1024) := by
      funext ax; fin_cases ax <;> rfl
    have hp : t.val / 32 * 1024 + (z 0).val < 32768 := by omega
    rw [hz]
    exact (out_apply m c hO t ht _ _ ⟨t.val / 32 * 1024 + (z 0).val, hp⟩ rfl).trans
      (out_place m hO t (plainAt m c) _ _ ⟨t.val / 32 * 1024 + (z 0).val, hp⟩ rfl).symm
  exact key y

end Array

/-- The kernel terminates, keeps its arguments and leaves every counter at zero, on the chip's own numbers. -/
theorem frame_kernel : quiescent_Kernel := fun m g _ => Cert.Kernel.Moe.frame m g

/-- The same on the extended reals. -/
theorem frame_ideal : quiescent_KernelIdeal := fun m g _ => Cert.KernelIdeal.Moe.frame m g

/-- The plain program terminates, keeps its arguments and leaves every counter at zero. -/
theorem frame_reference : quiescent_ReferenceIdeal := fun m g _ =>
  (θ_run Cert.ReferenceIdeal.defs _ _).mono (fun r h => ⟨fun c => (h c).2, sem_eq_zero_of_no_sems (by decide) r.2⟩) (Cert.ReferenceIdeal.Value.run (F := Ideal) m g)

/-- The call's array is the plain program's result. -/
theorem same_result : algebraic_KernelIdeal_ReferenceIdeal := by
  intro m g m' g' _ hagree
  refine ⟨fun c => plainAt m c, ?_, ?_⟩
  · have hrun := θ_run_and (frame m g) ((θ_run _ _ _).mono (fun _ h => h.1) (run_main m g (ok m) (hyps m)))
    refine (θ_run _ _ _).mono (fun r h c => ?_) hrun
    exact ⟨((h.2 c).1 8).trans (array m c (ok m) (hyps m)), h.1.1 c⟩
  · refine (θ_run Cert.ReferenceIdeal.defs _ _).mono (fun r h c => ?_) (Cert.ReferenceIdeal.Value.run (F := Ideal) m' g')
    obtain ⟨h0, ha⟩ := h c
    refine ⟨h0.trans ?_, ha⟩
    rw [Cert.ReferenceIdeal.Moe.result_eq]
    obtain ⟨e0, e1, e2, e3, e4, e5, e6⟩ := hagree c
    rw [e0, e1, e2, e3, e4, e5, e6]
    rfl

end Cert.KernelIdeal.Moe
-- ==== Proof.Proj.Plain.lean ====
/- The plain program's projected rows, read at one row and one column. -/
module

public import proofs.«01_k».proof.Defs
public import proofs.«01_k».proof.Proof.Gen.Reference2Ideal
public import Idealize.ShloMosaic.Lib.Pointwise

@[expose] public section

set_option maxRecDepth 16384

noncomputable section

namespace Cert.Reference2Ideal.Proj

open Idealize Idealize.ShloMosaic
open Cert.Reference2Ideal Cert.Reference2Ideal.Gen

/-- The rows divided by their root mean square and multiplied by the gain. -/
def normed (x : FVec Ideal S4x8192x1024 .f32) (g : FVec Ideal S1x1024 .f32) : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ g shapeCasts_S1x1024_S1024)))

/-- The plain program's projected rows, before the three column ranges are cut out. -/
def projected (x : FVec Ideal S4x8192x1024 .f32) (g : FVec Ideal S1x1024 .f32) (w : FVec Ideal S1x1024x5504 .f32) : FVec Ideal S32768x5504 .f32 :=
  shapeCast _ (Host.dotGeneral dot_S4x8192x1024_S1024x5504_S4x8192x5504_2_0_01_1_n_n none (normed x g) (shapeCast _ w shapeCasts_S1x1024x5504_S1024x5504)) shapeCasts_S4x8192x5504_S32768x5504

/-- One normalised element. -/
theorem normed_apply (x : FVec Ideal S4x8192x1024 .f32) (g : FVec Ideal S1x1024 .f32) (b : Fin 4) (r : Fin 8192) (k : Fin 1024) :
    normed x g (ix3 b r k) = x (ix3 b r k) * Ideal.rsqrt (Ideal.div (∑ l : Fin 1024, x (ix3 b r l) * x (ix3 b r l)) (Ideal.ofBits FTy.f32 0x44800000#32)
      + Ideal.ofBits FTy.f32 0x358637BD#32) * g (ix2 0 k) := by
  pointwise [normed]

/-- One projected element: the normalised row times a column of the weights. -/
theorem projected_apply (x : FVec Ideal S4x8192x1024 .f32) (g : FVec Ideal S1x1024 .f32) (w : FVec Ideal S1x1024x5504 .f32) (p : Fin 32768) (q : Fin 5504) :
    projected x g w (ix2 p q) = ∑ k : Fin 1024, normed x g (ix3 ⟨p.val / 8192, by omega⟩ ⟨p.val % 8192, by omega⟩ k) * w (ix3 0 k q) := by
  pointwise [projected]

/-- One projected element, all the way down to the arguments. -/
theorem projected_read (x : FVec Ideal S4x8192x1024 .f32) (g : FVec Ideal S1x1024 .f32) (w : FVec Ideal S1x1024x5504 .f32) (p : Fin 32768) (q : Fin 5504) :
    projected x g w (ix2 p q) = ∑ k : Fin 1024, x (ix3 ⟨p.val / 8192, by omega⟩ ⟨p.val % 8192, by omega⟩ k)
      * Ideal.rsqrt (Ideal.div (∑ l : Fin 1024, x (ix3 ⟨p.val / 8192, by omega⟩ ⟨p.val % 8192, by omega⟩ l) * x (ix3 ⟨p.val / 8192, by omega⟩ ⟨p.val % 8192, by omega⟩ l))
          (Ideal.ofBits FTy.f32 0x44800000#32) + Ideal.ofBits FTy.f32 0x358637BD#32) * g (ix2 0 k) * w (ix3 0 k q) := by
  simp only [projected_apply, normed_apply]

end Cert.Reference2Ideal.Proj
-- ==== Proof.Proj.Arrays.lean ====
/- The three arrays the normalise-and-project call leaves: the normalised rows times the input weights, cut at the
   columns 0, 1920 and 3456. Each is stated as the plain program's own term of the arguments. -/
module

public import proofs.«01_k».proof.Defs
public import proofs.«01_k».proof.Proof.Gen.Kernel2Ideal.Value
public import proofs.«01_k».proof.Proof.Proj.Plain
public import Idealize.ShloMosaic.Lib.Pointwise
public import Idealize.ShloMosaic.Lib.Pipeline.ValueKit

@[expose] public section

set_option maxRecDepth 16384

noncomputable section

namespace Cert.Kernel2Ideal.Proj

open Idealize Idealize.ShloMosaic Idealize.ShloMosaic.Pipeline Idealize.ShloMosaic.TcCoe

open Cert.Kernel2Ideal Cert.Kernel2Ideal.Gen
open Cert.Reference2Ideal.Proj (projected projected_read)

variable (m : (ℓ : Loc nD τ sig) → Buf (Elt Ideal) ℓ)

/-- `projected` of the call's own arguments on device `c`. -/
def projectedAt (c : Dev nD) : FVec Ideal Cert.Reference2Ideal.S32768x5504 .f32 :=
  projected (m ((c.tc : Thread nD τ).loc main_arg0)) (m ((c.tc : Thread nD τ).loc main_arg1)) (m ((c.tc : Thread nD τ).loc main_arg2))

/-- Where every window's block lies at each grid point: the rows and the three results move down one block per point. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] := by
  decide +kernel

/-- Merging the first two axes, read at a row. -/
theorem merge_read (x : FVec Ideal S4x8192x1024 .f32) (p : Fin 32768) (k : Fin 1024) :
    shapeCast S32768x1024 x shapeCasts_S4x8192x1024_S32768x1024 (ix2 p k) = x (ix3 ⟨p.val / 8192, by omega⟩ ⟨p.val % 8192, by omega⟩ k) := by
  pointwise

/-- The rows' array: the argument with its first two axes merged. -/
theorem rows_entry (c : Dev nD) : V m c main_v0 = shapeCast S32768x1024 (m ((c.tc : Thread nD τ).loc main_arg0)) shapeCasts_S4x8192x1024_S32768x1024 := by
  entry_read
  rfl

/-- The norm's gain, as the call receives it. -/
theorem gain_entry (c : Dev nD) (k : Fin 1024) : V m c main_v7 (ix2 0 k) = m ((c.tc : Thread nD τ).loc main_arg1) (ix2 0 k) := by
  entry_read
  pointwise

/-- The first branch's columns of the weights, as the call receives them. -/
theorem w4_entry (c : Dev nD) (k : Fin 1024) (q : Fin 1920) : V m c main_v4 (ix2 k q) = m ((c.tc : Thread nD τ).loc main_arg2) (ix3 0 k ⟨q.val, by omega⟩) := by
  entry_read
  pointwise

/-- The second branch's columns of the weights, as the call receives them. -/
theorem w5_entry (c : Dev nD) (k : Fin 1024) (q : Fin 1536) : V m c main_v5 (ix2 k q) = m ((c.tc : Thread nD τ).loc main_arg2) (ix3 0 k ⟨1920 + q.val, by omega⟩) := by
  entry_read
  pointwise

/-- The gates' columns of the weights, as the call receives them. -/
theorem w6_entry (c : Dev nD) (k : Fin 1024) (q : Fin 2048) : V m c main_v6 (ix2 k q) = m ((c.tc : Thread nD τ).loc main_arg2) (ix3 0 k ⟨3456 + q.val, by omega⟩) := by
  entry_read
  pointwise

/-- One element of the rows' array. -/
theorem rows_read (c : Dev nD) (p : Fin 32768) (k : Fin 1024) : V m c main_v0 (ix2 p k)
    = m ((c.tc : Thread nD τ).loc main_arg0) (ix3 ⟨p.val / 8192, by omega⟩ ⟨p.val % 8192, by omega⟩ k) :=
  (congrFun (rows_entry m c) (ix2 p k)).trans (merge_read _ p k)

/-- The rows at a grid point, in the rows' array. -/
theorem blk0_read (c : Dev nD) (t : Fin cfg0.N) (a : Fin 256) (k : Fin 1024) (p : Fin 32768) (hp : p.val = 256 * t.val + a.val) :
    iblk m c 0 t (ix2 a k) = V m c main_v0 (ix2 p k) := by
  unfold iblk
  generalize hX : V m c (Pipeline.arrRef spec0 0) = X
  refine congrArg X (funext fun ax => Fin.ext ?_)
  have h := (idx t).1
  fin_cases ax
  · show win0_0.index t 0 * 256 + 1 * a.val = p.val
    rw [h]; show t.val * 256 + 1 * a.val = p.val; omega
  · show win0_0.index t 1 * 1024 + 1 * k.val = k.val
    rw [h]; show 0 * 1024 + 1 * k.val = k.val; omega

/-- The gain at a grid point, in its array. -/
theorem blk1_read (c : Dev nD) (t : Fin cfg0.N) (k : Fin 1024) : iblk m c 1 t (ix2 0 k) = V m c main_v7 (ix2 0 k) := by
  blk_ext [iblk, idx t]

/-- The first branch's weights at a grid point, in their array. -/
theorem blk2_read (c : Dev nD) (t : Fin cfg0.N) (k : Fin 1024) (q : Fin 1920) : iblk m c 2 t (ix2 k q) = V m c main_v4 (ix2 k q) := by
  blk_ext [iblk, idx t]

/-- The second branch's weights at a grid point, in their array. -/
theorem blk3_read (c : Dev nD) (t : Fin cfg0.N) (k : Fin 1024) (q : Fin 1536) : iblk m c 3 t (ix2 k q) = V m c main_v5 (ix2 k q) := by
  blk_ext [iblk, idx t]

/-- The gates' weights at a grid point, in their array. -/
theorem blk4_read (c : Dev nD) (t : Fin cfg0.N) (k : Fin 1024) (q : Fin 2048) : iblk m c 4 t (ix2 k q) = V m c main_v6 (ix2 k q) := by
  blk_ext [iblk, idx t]

/-- The rows at a grid point, in the argument. -/
theorem blk0_arg (c : Dev nD) (t : Fin cfg0.N) (a : Fin 256) (k : Fin 1024) (p : Fin 32768) (hp : p.val = 256 * t.val + a.val) :
    iblk m c 0 t (ix2 a k) = m ((c.tc : Thread nD τ).loc main_arg0) (ix3 ⟨p.val / 8192, by omega⟩ ⟨p.val % 8192, by omega⟩ k) :=
  (blk0_read m c t a k p hp).trans (rows_read m c p k)

/-- The gain at a grid point, in the argument. -/
theorem blk1_arg (c : Dev nD) (t : Fin cfg0.N) (k : Fin 1024) : iblk m c 1 t (ix2 0 k) = m ((c.tc : Thread nD τ).loc main_arg1) (ix2 0 k) :=
  (blk1_read m c t k).trans (gain_entry m c k)

/-- The first branch's weights at a grid point, in the argument. -/
theorem blk2_arg (c : Dev nD) (t : Fin cfg0.N) (k : Fin 1024) (q : Fin 1920) :
    iblk m c 2 t (ix2 k q) = m ((c.tc : Thread nD τ).loc main_arg2) (ix3 0 k ⟨q.val, by omega⟩) := (blk2_read m c t k q).trans (w4_entry m c k q)

/-- The second branch's weights at a grid point, in the argument. -/
theorem blk3_arg (c : Dev nD) (t : Fin cfg0.N) (k : Fin 1024) (q : Fin 1536) :
    iblk m c 3 t (ix2 k q) = m ((c.tc : Thread nD τ).loc main_arg2) (ix3 0 k ⟨1920 + q.val, by omega⟩) := (blk3_read m c t k q).trans (w5_entry m c k q)

/-- The gates' weights at a grid point, in the argument. -/
theorem blk4_arg (c : Dev nD) (t : Fin cfg0.N) (k : Fin 1024) (q : Fin 2048) :
    iblk m c 4 t (ix2 k q) = m ((c.tc : Thread nD τ).loc main_arg2) (ix3 0 k ⟨3456 + q.val, by omega⟩) := (blk4_read m c t k q).trans (w6_entry m c k q)

/-- One element of the first result's block at grid point `t`. -/
theorem at5 (c : Dev nD) (t : Fin cfg0.N) (a : Fin 256) (q : Fin 1920) (p : Fin 32768) (hp : p.val = 256 * t.val + a.val) :
    k0_pay2 (iblk m c 0 t) (iblk m c 1 t) (iblk m c 2 t) (ix2 a q) = projectedAt m c (ix2 p ⟨q.val, by omega⟩) := by
  pointwise [k0_pay2, k0_pay1, projectedAt]
  refine Eq.trans ?_ (projected_read _ _ _ _ _).symm
  simp only [blk0_arg m c t _ _ p hp, blk1_arg, blk2_arg]

/-- The first result's array is 1920 columns of the projected rows, from column 0 on. -/
theorem array5 (c : Dev nD) : (dats m 0 c).arrAt 5 (cfgs 0).N
    = extractStridedSlice Cert.Reference2Ideal.S32768x1920 ![0, 0] (projectedAt m c) Cert.Reference2Ideal.Gen.slices_S32768x5504_S32768x1920_0_0 := by
  refine (dats m 0 c).arrAt_eq_of_covers 5 _ (by decide +kernel) fun t hf y => ?_
  blk_simp
  rw [after0_5]
  frame_out
  have h := (idx t).2.2.2.2.2.1
  have hN := t.isLt
  have hN' : cfg0.grid.N = 128 := N_0
  have hy : y = ix2 (⟨(y 0).val, (y 0).isLt⟩ : Fin 256) (⟨(y 1).val, (y 1).isLt⟩ : Fin 1920) := by
    funext ax; fin_cases ax <;> rfl
  have hb : (y 0).val < 256 := (y 0).isLt
  rw [hy]
  refine (at5 m c t _ _ ⟨256 * t.val + (y 0).val, by omega⟩ rfl).trans ?_
  refine congrArg (projectedAt m c) (funext fun ax => Fin.ext ?_)
  fin_cases ax
  · show 256 * t.val + (y 0).val = 0 + (win0_5.index t 0 * 256 + 1 * (y 0).val)
    rw [h]; show 256 * t.val + (y 0).val = 0 + (t.val * 256 + 1 * (y 0).val); omega
  · show (y 1).val = 0 + (win0_5.index t 1 * 1920 + 1 * (y 1).val)
    rw [h]; show (y 1).val = 0 + (0 * 1920 + 1 * (y 1).val); omega

/-- One element of the second result's block at grid point `t`. -/
theorem at6 (c : Dev nD) (t : Fin cfg0.N) (a : Fin 256) (q : Fin 1536) (p : Fin 32768) (hp : p.val = 256 * t.val + a.val) :
    k0_pay3 (iblk m c 0 t) (iblk m c 1 t) (iblk m c 3 t) (ix2 a q) = projectedAt m c (ix2 p ⟨1920 + q.val, by omega⟩) := by
  pointwise [k0_pay3, k0_pay1, projectedAt]
  refine Eq.trans ?_ (projected_read _ _ _ _ _).symm
  simp only [blk0_arg m c t _ _ p hp, blk1_arg, blk3_arg]

/-- The second result's array is 1536 columns of the projected rows, from column 1920 on. -/
theorem array6 (c : Dev nD) : (dats m 0 c).arrAt 6 (cfgs 0).N
    = extractStridedSlice Cert.Reference2Ideal.S32768x1536 ![0, 1920] (projectedAt m c) Cert.Reference2Ideal.Gen.slices_S32768x5504_S32768x1536_0_1920 := by
  refine (dats m 0 c).arrAt_eq_of_covers 6 _ (by decide +kernel) fun t hf y => ?_
  blk_simp
  rw [after0_6]
  frame_out
  have h := (idx t).2.2.2.2.2.2.1
  have hN := t.isLt
  have hN' : cfg0.grid.N = 128 := N_0
  have hy : y = ix2 (⟨(y 0).val, (y 0).isLt⟩ : Fin 256) (⟨(y 1).val, (y 1).isLt⟩ : Fin 1536) := by
    funext ax; fin_cases ax <;> rfl
  have hb : (y 0).val < 256 := (y 0).isLt
  rw [hy]
  refine (at6 m c t _ _ ⟨256 * t.val + (y 0).val, by omega⟩ rfl).trans ?_
  refine congrArg (projectedAt m c) (funext fun ax => Fin.ext ?_)
  fin_cases ax
  · show 256 * t.val + (y 0).val = 0 + (win0_6.index t 0 * 256 + 1 * (y 0).val)
    rw [h]; show 256 * t.val + (y 0).val = 0 + (t.val * 256 + 1 * (y 0).val); omega
  · show 1920 + (y 1).val = 1920 + (win0_6.index t 1 * 1536 + 1 * (y 1).val)
    rw [h]; show 1920 + (y 1).val = 1920 + (0 * 1536 + 1 * (y 1).val); omega

/-- One element of the third result's block at grid point `t`. -/
theorem at7 (c : Dev nD) (t : Fin cfg0.N) (a : Fin 256) (q : Fin 2048) (p : Fin 32768) (hp : p.val = 256 * t.val + a.val) :
    k0_pay4 (iblk m c 0 t) (iblk m c 1 t) (iblk m c 4 t) (ix2 a q) = projectedAt m c (ix2 p ⟨3456 + q.val, by omega⟩) := by
  pointwise [k0_pay4, k0_pay1, projectedAt]
  refine Eq.trans ?_ (projected_read _ _ _ _ _).symm
  simp only [blk0_arg m c t _ _ p hp, blk1_arg, blk4_arg]

/-- The third result's array is 2048 columns of the projected rows, from column 3456 on. -/
theorem array7 (c : Dev nD) : (dats m 0 c).arrAt 7 (cfgs 0).N
    = extractStridedSlice Cert.Reference2Ideal.S32768x2048 ![0, 3456] (projectedAt m c) Cert.Reference2Ideal.Gen.slices_S32768x5504_S32768x2048_0_3456 := by
  refine (dats m 0 c).arrAt_eq_of_covers 7 _ (by decide +kernel) fun t hf y => ?_
  blk_simp
  rw [after0_7]
  frame_out
  have h := (idx t).2.2.2.2.2.2.2
  have hN := t.isLt
  have hN' : cfg0.grid.N = 128 := N_0
  have hy : y = ix2 (⟨(y 0).val, (y 0).isLt⟩ : Fin 256) (⟨(y 1).val, (y 1).isLt⟩ : Fin 2048) := by
    funext ax; fin_cases ax <;> rfl
  have hb : (y 0).val < 256 := (y 0).isLt
  rw [hy]
  refine (at7 m c t _ _ ⟨256 * t.val + (y 0).val, by omega⟩ rfl).trans ?_
  refine congrArg (projectedAt m c) (funext fun ax => Fin.ext ?_)
  fin_cases ax
  · show 256 * t.val + (y 0).val = 0 + (win0_7.index t 0 * 256 + 1 * (y 0).val)
    rw [h]; show 256 * t.val + (y 0).val = 0 + (t.val * 256 + 1 * (y 0).val); omega
  · show 3456 + (y 1).val = 3456 + (win0_7.index t 1 * 2048 + 1 * (y 1).val)
    rw [h]; show 3456 + (y 1).val = 3456 + (0 * 2048 + 1 * (y 1).val); omega

end Cert.Kernel2Ideal.Proj
-- ==== Proof.Proj.Claims.lean ====
/- The claims about the normalise-and-project call: its runs, and its results against the plain program's. -/
module

public import proofs.«01_k».proof.Defs
public import proofs.«01_k».proof.Proof.Gen.Reference2Ideal.Run
public import proofs.«01_k».proof.Proof.Gen.Kernel2.Frame
public import proofs.«01_k».proof.Proof.Proj.Arrays
public import Idealize.ShloMosaic.Lib.Claim
public import Idealize.ShloMosaic.Lib.Quiescent

@[expose] public section

set_option maxRecDepth 16384

noncomputable section

namespace Cert.Kernel2Ideal.Proj

open Idealize.ShloMosaic Idealize.SL.Sem

attribute [local instance] Cert.Kernel2.Gen.facts Cert.Kernel2Ideal.Gen.facts Cert.Reference2Ideal.Gen.facts

/-- The plain program terminates, keeps its arguments and leaves every counter at zero. -/
theorem frame_reference : quiescent_Reference2Ideal := fun m g _ =>
  (θ_run Cert.Reference2Ideal.defs _ _).mono (fun r h => ⟨fun c => ⟨(h c).2.2.2.1, (h c).2.2.2.2.1, (h c).2.2.2.2.2⟩,
    sem_eq_zero_of_no_sems (by decide) r.2⟩) (Cert.Reference2Ideal.Value.run (F := Ideal) m g)

/-- The call's three arrays are the plain program's three results. -/
theorem same_results : algebraic_Kernel2Ideal_Reference2Ideal := by
  intro m g m' g' _ hagree
  refine ⟨fun c => (Cert.Kernel2Ideal.Gen.dats m 0 c).arrAt 5 (cfgs 0).N, fun c => (Cert.Kernel2Ideal.Gen.dats m 0 c).arrAt 6 (cfgs 0).N,
    fun c => (Cert.Kernel2Ideal.Gen.dats m 0 c).arrAt 7 (cfgs 0).N, ?_, ?_⟩
  · run_from Cert.Kernel2Ideal.Gen.run_main m g
  · refine (θ_run Cert.Reference2Ideal.defs _ _).mono (fun r h c => ?_) (Cert.Reference2Ideal.Value.run (F := Ideal) m' g')
    obtain ⟨h0, h1, h2, ha⟩ := h c
    obtain ⟨e0, e1, e2⟩ := hagree c
    rw [e0, e1, e2] at h0 h1 h2
    exact ⟨h0.trans (array5 m c).symm, h1.trans (array6 m c).symm, h2.trans (array7 m c).symm, ha⟩

end Cert.Kernel2Ideal.Proj
-- ==== Proof.Join.Plain.lean ====
/- The plain program's two results for the join of the branches, each read at one row and one column. -/
module

public import proofs.«01_k».proof.Defs
public import proofs.«01_k».proof.Proof.Gen.Reference3Ideal
public import Idealize.ShloMosaic.Lib.Pointwise

@[expose] public section

set_option maxRecDepth 16384

noncomputable section

namespace Cert.Reference3Ideal.Join

open Idealize Idealize.ShloMosaic
open Cert.Reference3Ideal Cert.Reference3Ideal.Gen

/-- The logistic function as the plain program computes it. -/
def sigmoid (y : EReal) : EReal :=
  Ideal.div (Ideal.ofBits FTy.f32 0x3F800000#32) (Ideal.ofBits FTy.f32 0x3F800000#32 + Ideal.exp (-y))

/-- The first branch's gate. -/
def gateA (pg : FVec Ideal S32768x2048 .f32) : FVec Ideal S32768x1024 .f32 :=
  Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 0] pg slices_S32768x2048_S32768x1024_0_0))))

/-- The second branch's gate. -/
def gateB (pg : FVec Ideal S32768x2048 .f32) : FVec Ideal S32768x1024 .f32 :=
  Host.divf (broadcastInDim S32768x1024 ![] bcast_S_S32768x1024 (constant S_ .f32 0x3F800000#32)) (addf (broadcastInDim S32768x1024 ![] bcast_S_S32768x1024 (constant S_ .f32 0x3F800000#32)) (Host.exp (Host.negf (extractStridedSlice S32768x1024 ![0, 1024] pg slices_S32768x2048_S32768x1024_0_1024))))

/-- A branch's rows times its weights. -/
def lifted (y : FVec Ideal S32768x512 .f32) (w : FVec Ideal S1x512x1024 .f32) : FVec Ideal S32768x1024 .f32 :=
  Host.dotGeneral dot_S32768x512_S512x1024_S32768x1024_1_0_0_1_n_n none y (shapeCast _ w shapeCasts_S1x512x1024_S512x1024)

/-- The two branches, each times its gate, added. -/
def merged (ya yb : FVec Ideal S32768x512 .f32) (pg : FVec Ideal S32768x2048 .f32) (wa wb : FVec Ideal S1x512x1024 .f32) :
    FVec Ideal S32768x1024 .f32 := addf (mulf (gateA pg) (lifted ya wa)) (mulf (gateB pg) (lifted yb wb))

/-- The residual rows plus the projected branches: the first result. -/
def joined (x : FVec Ideal S32768x1024 .f32) (ya yb : FVec Ideal S32768x512 .f32) (pg : FVec Ideal S32768x2048 .f32)
    (wa wb : FVec Ideal S1x512x1024 .f32) (wo : FVec Ideal S1x1024x1024 .f32) : FVec Ideal S32768x1024 .f32 :=
  addf x (Host.dotGeneral dot_S32768x1024_S1024x1024_S32768x1024_1_0_0_1_n_n none (merged ya yb pg wa wb) (shapeCast _ wo shapeCasts_S1x1024x1024_S1024x1024))

/-- Rows divided by their root mean square and multiplied by the gain. -/
def normed (y : FVec Ideal S32768x1024 .f32) (g : FVec Ideal S1x1024 .f32) : FVec Ideal S32768x1024 .f32 :=
  mulf (mulf y (broadcastInDim S32768x1024 ![0, 1] bcast_S32768x1_S32768x1024_0_1 (Host.rsqrt (addf (Host.divf (broadcastInDim S32768x1 ![0] bcast_S32768_S32768x1_0 (Host.reduceAdd (mulf y y) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 (shapeCast _ g shapeCasts_S1x1024_S1024)))

/-- The normalised rows as the plain program returns them: the second result. -/
def rounded (y : FVec Ideal S32768x1024 .f32) (g : FVec Ideal S1x1024 .f32) : FVec Ideal S32768x1024 .bf16 :=
  truncf .bf16 (normed y g) bitsLt_bf16_f32

/-- One element of the first gate. -/
theorem gateA_apply (pg : FVec Ideal S32768x2048 .f32) (p : Fin 32768) (k : Fin 1024) :
    gateA pg (ix2 p k) = sigmoid (pg (ix2 p ⟨k.val, by omega⟩)) := by
  pointwise [gateA, sigmoid]

/-- One element of the second gate. -/
theorem gateB_apply (pg : FVec Ideal S32768x2048 .f32) (p : Fin 32768) (k : Fin 1024) :
    gateB pg (ix2 p k) = sigmoid (pg (ix2 p ⟨1024 + k.val, by omega⟩)) := by
  pointwise [gateB, sigmoid]

/-- One element of a branch's rows times its weights. -/
theorem lifted_apply (y : FVec Ideal S32768x512 .f32) (w : FVec Ideal S1x512x1024 .f32) (p : Fin 32768) (k : Fin 1024) :
    lifted y w (ix2 p k) = ∑ j : Fin 512, y (ix2 p j) * w (ix3 0 j k) := by
  pointwise [lifted]

/-- One element of the gated sum. -/
theorem merged_apply (ya yb : FVec Ideal S32768x512 .f32) (pg : FVec Ideal S32768x2048 .f32) (wa wb : FVec Ideal S1x512x1024 .f32)
    (p : Fin 32768) (k : Fin 1024) : merged ya yb pg wa wb (ix2 p k)
      = sigmoid (pg (ix2 p ⟨k.val, by omega⟩)) * (∑ j : Fin 512, ya (ix2 p j) * wa (ix3 0 j k))
        + sigmoid (pg (ix2 p ⟨1024 + k.val, by omega⟩)) * (∑ j : Fin 512, yb (ix2 p j) * wb (ix3 0 j k)) := by
  rw [← gateA_apply, ← gateB_apply, ← lifted_apply, ← lifted_apply]
  rfl

/-- One element of the first result. -/
theorem joined_apply (x : FVec Ideal S32768x1024 .f32) (ya yb : FVec Ideal S32768x512 .f32) (pg : FVec Ideal S32768x2048 .f32)
    (wa wb : FVec Ideal S1x512x1024 .f32) (wo : FVec Ideal S1x1024x1024 .f32) (p : Fin 32768) (q : Fin 1024) :
    joined x ya yb pg wa wb wo (ix2 p q) = x (ix2 p q) + ∑ k : Fin 1024, merged ya yb pg wa wb (ix2 p k) * wo (ix3 0 k q) := by
  pointwise [joined]

/-- One normalised element. -/
theorem normed_apply (y : FVec Ideal S32768x1024 .f32) (g : FVec Ideal S1x1024 .f32) (p : Fin 32768) (q : Fin 1024) :
    normed y g (ix2 p q) = y (ix2 p q) * Ideal.rsqrt (Ideal.div (∑ l : Fin 1024, y (ix2 p l) * y (ix2 p l)) (Ideal.ofBits FTy.f32 0x44800000#32)
      + Ideal.ofBits FTy.f32 0x358637BD#32) * g (ix2 0 q) := by
  pointwise [normed]

/-- One element of the second result. -/
theorem rounded_apply (y : FVec Ideal S32768x1024 .f32) (g : FVec Ideal S1x1024 .f32) (p : Fin 32768) (q : Fin 1024) :
    rounded y g (ix2 p q) = (y (ix2 p q) * Ideal.rsqrt (Ideal.div (∑ l : Fin 1024, y (ix2 p l) * y (ix2 p l)) (Ideal.ofBits FTy.f32 0x44800000#32)
      + Ideal.ofBits FTy.f32 0x358637BD#32) * g (ix2 0 q) : EReal) :=
  normed_apply y g p q

end Cert.Reference3Ideal.Join
-- ==== Proof.Join.Results.lean ====
/- The plain program's run for the join of the branches, with its two results under their names. -/
module

public import proofs.«01_k».proof.Defs
public import proofs.«01_k».proof.Proof.Gen.Reference3Ideal.Run
public import proofs.«01_k».proof.Proof.Join.Plain

@[expose] public section

set_option maxRecDepth 16384

noncomputable section

namespace Cert.Reference3Ideal.Join

open Idealize.ShloMosaic Idealize.ShloMosaic.TcCoe Idealize.SL.Sem
open Cert.Reference3Ideal Cert.Reference3Ideal.Gen

variable (m : (ℓ : Loc nD τ sig) → Buf (Elt Ideal) ℓ) (c : Dev nD)

/-- The plain program's joined rows, of its arguments on device `c`. -/
def joinedOf : FVec Ideal S32768x1024 .f32 :=
  joined (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The plain program's normalised rows, of its arguments on device `c`. -/
def roundedOf : FVec Ideal S32768x1024 .bf16 := rounded (joinedOf m c) (m ((c.tc : Thread nD τ).loc main_arg7))

/-- The plain program's second result is its first one normalised. -/
theorem result1 : Value.res_main_v38 (F := Ideal) m c = roundedOf m c := by
  unfold Value.res_main_v38 roundedOf rounded normed joinedOf joined merged gateA gateB lifted
  rfl

/-- From any memory with zero counters the plain program ends with the joined rows and the normalised rows. -/
theorem results (g : Dev nD → PrngReg) : θ_run defs (onTc (τ := τ) (main (F := Ideal))) ⟨m, fun _ => 0, g⟩ fun r => ∀ c : Dev nD,
    r.2.mem ((c.tc : Thread nD τ).loc main_v23) = joinedOf m c
      ∧ r.2.mem ((c.tc : Thread nD τ).loc main_v38) = roundedOf m c :=
  (θ_run defs _ _).mono (fun r h c => ⟨(h c).1, (h c).2.1.trans (result1 m c)⟩) (Value.run (F := Ideal) m g)

end Cert.Reference3Ideal.Join
-- ==== Proof.Join.Arrays.lean ====
/- The first two arrays the joining call leaves: the residual rows with the gated branches added, and those rows
   normalised. Each is stated as the plain program's own term of the arguments. -/
module

public import proofs.«01_k».proof.Defs
public import proofs.«01_k».proof.Proof.Gen.Kernel3Ideal.Value
public import proofs.«01_k».proof.Proof.Join.Plain
public import Idealize.ShloMosaic.Lib.Pointwise
public import Idealize.ShloMosaic.Lib.Pipeline.ValueKit

@[expose] public section

set_option maxRecDepth 16384

noncomputable section

namespace Cert.Kernel3Ideal.Join

open Idealize Idealize.ShloMosaic Idealize.ShloMosaic.Pipeline Idealize.ShloMosaic.TcCoe

open Cert.Kernel3Ideal Cert.Kernel3Ideal.Gen
open Cert.Reference3Ideal.Join (merged joined rounded sigmoid merged_apply joined_apply rounded_apply)

variable (m : (ℓ : Loc nD τ sig) → Buf (Elt Ideal) ℓ)

/-- `merged` of the call's own arguments on device `c`. -/
def mergedAt (c : Dev nD) : FVec Ideal Cert.Reference3Ideal.S32768x1024 .f32 :=
  merged (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))

/-- `joined` of the call's own arguments on device `c`. -/
def joinedAt (c : Dev nD) : FVec Ideal Cert.Reference3Ideal.S32768x1024 .f32 :=
  joined (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- `rounded` of the call's own arguments on device `c`. -/
def normedAt (c : Dev nD) : FVec Ideal Cert.Reference3Ideal.S32768x1024 .bf16 :=
  rounded (joinedAt m c) (m ((c.tc : Thread nD τ).loc main_arg7))

/-- The logistic function is the plain program's quotient. -/
theorem logistic_eq (y : EReal) : Ideal.logistic y = sigmoid y := by
  unfold sigmoid
  rw [show Ideal.ofBits FTy.f32 0x3F800000#32 = 1 by exact Ideal.ofBits_one_f32]
  rfl

/-- Where the row windows and the first two results lie at each grid point: they move down one block per point. -/
theorem idx_rows : ∀ t : Fin cfg0.N, win0_0.index t = ![t.val, 0] ∧ win0_1.index t = ![t.val, 0] ∧ win0_2.index t = ![t.val, 0]
    ∧ win0_3.index t = ![t.val, 0] ∧ win0_10.index t = ![t.val, 0] ∧ win0_11.index t = ![t.val, 0] ∧ win0_12.index t = ![0, t.val] := by
  decide +kernel

/-- Where the weights' windows lie: always at the start. -/
theorem idx_weights : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] := by
  decide +kernel

/-- The first branch's weights, as the call receives them. -/
theorem wa_entry (c : Dev nD) (k : Fin 512) (q : Fin 1024) : V m c main_v8 (ix2 k q) = m ((c.tc : Thread nD τ).loc main_arg4) (ix3 0 k q) := by
  entry_read
  pointwise

/-- The second branch's weights, as the call receives them. -/
theorem wb_entry (c : Dev nD) (k : Fin 512) (q : Fin 1024) : V m c main_v9 (ix2 k q) = m ((c.tc : Thread nD τ).loc main_arg5) (ix3 0 k q) := by
  entry_read
  pointwise

/-- The output projection's weights, as the call receives them. -/
theorem wo_entry (c : Dev nD) (k : Fin 1024) (q : Fin 1024) : V m c main_v10 (ix2 k q) = m ((c.tc : Thread nD τ).loc main_arg6) (ix3 0 k q) := by
  entry_read
  pointwise

/-- The norm's gain, as the call receives it. -/
theorem gain_entry (c : Dev nD) (q : Fin 1024) : V m c main_v16 (ix2 0 q) = m ((c.tc : Thread nD τ).loc main_arg7) (ix2 0 q) := by
  entry_read
  pointwise

/-- The residual rows at a grid point. -/
theorem blk0_arg (c : Dev nD) (t : Fin cfg0.N) (a : Fin 512) (q : Fin 1024) (p : Fin 32768) (hp : p.val = 512 * t.val + a.val) :
    iblk m c 0 t (ix2 a q) = m ((c.tc : Thread nD τ).loc main_arg0) (ix2 p q) := by
  have e : V m c main_arg0 = m ((c.tc : Thread nD τ).loc main_arg0) := by entry_read; rfl
  rw [← e]
  unfold iblk
  change V m c main_arg0 _ = _
  generalize V m c main_arg0 = X
  refine congrArg X (funext fun ax => Fin.ext ?_)
  have h := (idx_rows t).1
  fin_cases ax
  · show win0_0.index t 0 * 512 + 1 * a.val = p.val
    rw [h]; show t.val * 512 + 1 * a.val = p.val; omega
  · show win0_0.index t 1 * 1024 + 1 * q.val = q.val
    rw [h]; show 0 * 1024 + 1 * q.val = q.val; omega

/-- The first branch's rows at a grid point. -/
theorem blk1_arg (c : Dev nD) (t : Fin cfg0.N) (a : Fin 512) (q : Fin 512) (p : Fin 32768) (hp : p.val = 512 * t.val + a.val) :
    iblk m c 1 t (ix2 a q) = m ((c.tc : Thread nD τ).loc main_arg1) (ix2 p q) := by
  have e : V m c main_arg1 = m ((c.tc : Thread nD τ).loc main_arg1) := by entry_read; rfl
  rw [← e]
  unfold iblk
  change V m c main_arg1 _ = _
  generalize V m c main_arg1 = X
  refine congrArg X (funext fun ax => Fin.ext ?_)
  have h := (idx_rows t).2.1
  fin_cases ax
  · show win0_1.index t 0 * 512 + 1 * a.val = p.val
    rw [h]; show t.val * 512 + 1 * a.val = p.val; omega
  · show win0_1.index t 1 * 512 + 1 * q.val = q.val
    rw [h]; show 0 * 512 + 1 * q.val = q.val; omega

/-- The second branch's rows at a grid point. -/
theorem blk2_arg (c : Dev nD) (t : Fin cfg0.N) (a : Fin 512) (q : Fin 512) (p : Fin 32768) (hp : p.val = 512 * t.val + a.val) :
    iblk m c 2 t (ix2 a q) = m ((c.tc : Thread nD τ).loc main_arg2) (ix2 p q) := by
  have e : V m c main_arg2 = m ((c.tc : Thread nD τ).loc main_arg2) := by entry_read; rfl
  rw [← e]
  unfold iblk
  change V m c main_arg2 _ = _
  generalize V m c main_arg2 = X
  refine congrArg X (funext fun ax => Fin.ext ?_)
  have h := (idx_rows t).2.2.1
  fin_cases ax
  · show win0_2.index t 0 * 512 + 1 * a.val = p.val
    rw [h]; show t.val * 512 + 1 * a.val = p.val; omega
  · show win0_2.index t 1 * 512 + 1 * q.val = q.val
    rw [h]; show 0 * 512 + 1 * q.val = q.val; omega

/-- The gates' rows at a grid point. -/
theorem blk3_arg (c : Dev nD) (t : Fin cfg0.N) (a : Fin 512) (q : Fin 2048) (p : Fin 32768) (hp : p.val = 512 * t.val + a.val) :
    iblk m c 3 t (ix2 a q) = m ((c.tc : Thread nD τ).loc main_arg3) (ix2 p q) := by
  have e : V m c main_arg3 = m ((c.tc : Thread nD τ).loc main_arg3) := by entry_read; rfl
  rw [← e]
  unfold iblk
  change V m c main_arg3 _ = _
  generalize V m c main_arg3 = X
  refine congrArg X (funext fun ax => Fin.ext ?_)
  have h := (idx_rows t).2.2.2.1
  fin_cases ax
  · show win0_3.index t 0 * 512 + 1 * a.val = p.val
    rw [h]; show t.val * 512 + 1 * a.val = p.val; omega
  · show win0_3.index t 1 * 2048 + 1 * q.val = q.val
    rw [h]; show 0 * 2048 + 1 * q.val = q.val; omega

/-- The first branch's weights at a grid point. -/
theorem blk4_arg (c : Dev nD) (t : Fin cfg0.N) (k : Fin 512) (q : Fin 1024) :
    iblk m c 4 t (ix2 k q) = m ((c.tc : Thread nD τ).loc main_arg4) (ix3 0 k q) := by
  refine Eq.trans ?_ (wa_entry m c k q)
  blk_ext [iblk, idx_weights t]

/-- The second branch's weights at a grid point. -/
theorem blk5_arg (c : Dev nD) (t : Fin cfg0.N) (k : Fin 512) (q : Fin 1024) :
    iblk m c 5 t (ix2 k q) = m ((c.tc : Thread nD τ).loc main_arg5) (ix3 0 k q) := by
  refine Eq.trans ?_ (wb_entry m c k q)
  blk_ext [iblk, idx_weights t]

/-- The output projection's weights at a grid point. -/
theorem blk6_arg (c : Dev nD) (t : Fin cfg0.N) (k : Fin 1024) (q : Fin 1024) :
    iblk m c 6 t (ix2 k q) = m ((c.tc : Thread nD τ).loc main_arg6) (ix3 0 k q) := by
  refine Eq.trans ?_ (wo_entry m c k q)
  blk_ext [iblk, idx_weights t]

/-- The norm's gain at a grid point. -/
theorem blk7_arg (c : Dev nD) (t : Fin cfg0.N) (q : Fin 1024) : iblk m c 7 t (ix2 0 q) = m ((c.tc : Thread nD τ).loc main_arg7) (ix2 0 q) := by
  refine Eq.trans ?_ (gain_entry m c q)
  blk_ext [iblk, idx_weights t]

/-- The body's joined rows, read at a row and a column of what it loads. -/
theorem pay2_read (ga gb : FVec Ideal S512x1024 .f32) (ya yb : FVec Ideal S512x512 .f32) (wa wb : FVec Ideal S512x1024 .bf16)
    (x : FVec Ideal S512x1024 .f32) (wo : FVec Ideal S1024x1024 .bf16) (a : Fin 512) (q : Fin 1024) :
    k0_pay2 ga gb ya wa yb wb x wo (ix2 a q) = (x (ix2 a q) + ∑ k : Fin 1024,
      (Ideal.logistic (ga (ix2 a k)) * (∑ j : Fin 512, ya (ix2 a j) * wa (ix2 j k))
        + Ideal.logistic (gb (ix2 a k)) * (∑ j : Fin 512, yb (ix2 a j) * wb (ix2 j k))) * wo (ix2 k q) : EReal) := by
  pointwise [k0_pay2]

/-- The body's rows over their root mean square, read at a row and a column. -/
theorem pay3_read (ga gb : FVec Ideal S512x1024 .f32) (ya yb : FVec Ideal S512x512 .f32) (wa wb : FVec Ideal S512x1024 .bf16)
    (x : FVec Ideal S512x1024 .f32) (wo : FVec Ideal S1024x1024 .bf16) (Y : Fin 1024 → EReal) (a : Fin 512)
    (hY : ∀ l : Fin 1024, k0_pay2 (F := Ideal) ga gb ya wa yb wb x wo (ix2 a l) = Y l) (q : Fin 1024) :
    k0_pay3 (F := Ideal) ga gb ya wa yb wb x wo (ix2 a q) = (Y q * Ideal.rsqrt (Ideal.div (∑ l : Fin 1024, Y l * Y l) (Ideal.ofBits FTy.f32 0x44800000#32)
      + Ideal.ofBits FTy.f32 0x358637BD#32) : EReal) := by
  simp only [← hY]
  generalize hZ : k0_pay2 (F := Ideal) ga gb ya wa yb wb x wo = Z
  pointwise [k0_pay3, hZ]

/-- The first half of the gates' columns, as loaded. -/
theorem loadA (X : Vec Ideal S512x2048 .f32) (a : Fin 512) (k : Fin 1024) : View.ld (Val := Elt Ideal) X r0_0 (ix2 a k) = X (ix2 a ⟨k.val, by omega⟩) := by
  refine congrArg X (funext fun ax => Fin.ext ?_)
  fin_cases ax
  · show 0 + 1 * a.val = a.val; omega
  · show 0 + 1 * k.val = k.val; omega

/-- The second half of the gates' columns, as loaded. -/
theorem loadB (X : Vec Ideal S512x2048 .f32) (a : Fin 512) (k : Fin 1024) : View.ld (Val := Elt Ideal) X r0_1 (ix2 a k) = X (ix2 a ⟨1024 + k.val, by omega⟩) := by
  refine congrArg X (funext fun ax => Fin.ext ?_)
  fin_cases ax
  · show 0 + 1 * a.val = a.val; omega
  · show 1024 + 1 * k.val = 1024 + k.val; omega

/-- One joined element at grid point `t`. -/
theorem at10 (c : Dev nD) (t : Fin cfg0.N) (a : Fin 512) (q : Fin 1024) (p : Fin 32768) (hp : p.val = 512 * t.val + a.val) :
    k0_pay2 (F := Ideal) (View.ld (iblk m c 3 t) r0_0) (View.ld (iblk m c 3 t) r0_1) (iblk m c 1 t) (iblk m c 4 t) (iblk m c 2 t)
      (iblk m c 5 t) (iblk m c 0 t) (iblk m c 6 t) (ix2 a q) = joinedAt m c (ix2 p q) := by
  refine (pay2_read _ _ _ _ _ _ _ _ a q).trans ?_
  refine Eq.trans ?_ (joined_apply _ _ _ _ _ _ _ p q).symm
  simp only [merged_apply, blk0_arg m c t _ _ p hp, blk1_arg m c t _ _ p hp, blk2_arg m c t _ _ p hp, blk4_arg, blk5_arg, blk6_arg,
    logistic_eq]
  refine congrArg _ (Finset.sum_congr rfl fun k _ => ?_)
  have hA := (loadA (iblk m c 3 t) a k).trans (blk3_arg m c t a _ p hp)
  have hB := (loadB (iblk m c 3 t) a k).trans (blk3_arg m c t a _ p hp)
  exact congrArg₂ (fun u v : EReal => (sigmoid u * _ + sigmoid v * _) * _) hA hB

/-- The body's rows over their root mean square, from the blocks it loads. -/
theorem pay22_eq (x0 : Vec Ideal S512x1024 .f32) (x1 x2 : Vec Ideal S512x512 .f32) (x3 : Vec Ideal S512x2048 .f32) (x4 x5 : Vec Ideal S512x1024 .bf16)
    (x6 : Vec Ideal S1024x1024 .bf16) (x7 : Vec Ideal S1x1024 .f32) (x8 : Vec Ideal S1024x128 .f32) (x9 : Vec Ideal S1x128 .f32) :
    k0_pay22 (F := Ideal) x0 x1 x2 x3 x4 x5 x6 x7 x8 x9 = k0_pay3 (View.ld x3 r0_0) (View.ld x3 r0_1) x1 x4 x2 x5 x0 x6 := by
  have e1 : View.ld x1 r0_2 = x1 := View.ld_unit_lit _ x1 (by decide)
  have e2 : View.ld x2 r0_2 = x2 := View.ld_unit_lit _ x2 (by decide)
  have e4 : View.ld x4 r0_3 = x4 := View.ld_unit_lit _ x4 (by decide)
  have e5 : View.ld x5 r0_3 = x5 := View.ld_unit_lit _ x5 (by decide)
  have e0 : View.ld x0 r0_3 = x0 := View.ld_unit_lit _ x0 (by decide)
  have e6 : View.ld x6 r0_4 = x6 := View.ld_unit_lit _ x6 (by decide)
  unfold k0_pay22
  rw [e0, e1, e2, e4, e5, e6]

/-- One normalised element at grid point `t`. -/
theorem at11 (c : Dev nD) (t : Fin cfg0.N) (a : Fin 512) (q : Fin 1024) (p : Fin 32768) (hp : p.val = 512 * t.val + a.val) :
    k0_pay5 (F := Ideal) (k0_pay22 (iblk m c 0 t) (iblk m c 1 t) (iblk m c 2 t) (iblk m c 3 t) (iblk m c 4 t) (iblk m c 5 t) (iblk m c 6 t)
      (iblk m c 7 t) (iblk m c 8 t) (iblk m c 9 t)) (iblk m c 7 t) (ix2 a q) = normedAt m c (ix2 p q) := by
  refine Eq.trans ?_ (rounded_apply _ _ p q).symm
  have h := pay3_read _ _ _ _ _ _ _ _ (fun l => joinedAt m c (ix2 p l)) a (fun l => at10 m c t a l p hp) q
  rw [pay22_eq, ← h, ← blk7_arg m c t q]
  generalize k0_pay3 (F := Ideal) _ _ _ _ _ _ _ _ = Z
  generalize iblk m c 7 t = G
  pointwise [k0_pay5, k0_pay4]

/-- Where an element of a row block lies in the whole array. -/
theorem row_lt (t : Fin cfg0.N) (a : ℕ) (ha : a < 512) : 512 * t.val + a < 32768 := by
  have hN : t.val < cfg0.grid.N := t.isLt
  have hN' : cfg0.grid.N = 64 := N_0
  omega

/-- The first result's array is the plain program's joined rows. -/
theorem array10 (c : Dev nD) : (dats m 0 c).arrAt 10 (cfgs 0).N = joinedAt m c := by
  refine (dats m 0 c).arrAt_eq_of_covers 10 _ (by decide +kernel) fun t hf y => ?_
  blk_simp
  rw [after0_10]
  frame_out
  have h := (idx_rows t).2.2.2.2.1
  have hy : y = ix2 (⟨(y 0).val, (y 0).isLt⟩ : Fin 512) (⟨(y 1).val, (y 1).isLt⟩ : Fin 1024) := by
    funext ax; fin_cases ax <;> rfl
  have hb : (y 0).val < 512 := (y 0).isLt
  rw [hy]
  refine (at10 m c t _ _ ⟨512 * t.val + (y 0).val, row_lt t _ hb⟩ rfl).trans ?_
  refine congrArg (joinedAt m c) (funext fun ax => Fin.ext ?_)
  fin_cases ax
  · show 512 * t.val + (y 0).val = win0_10.index t 0 * 512 + 1 * (y 0).val
    rw [h]; show 512 * t.val + (y 0).val = t.val * 512 + 1 * (y 0).val; omega
  · show (y 1).val = win0_10.index t 1 * 1024 + 1 * (y 1).val
    rw [h]; show (y 1).val = 0 * 1024 + 1 * (y 1).val; omega

/-- The second result's array is the plain program's normalised rows. -/
theorem array11 (c : Dev nD) : (dats m 0 c).arrAt 11 (cfgs 0).N = normedAt m c := by
  refine (dats m 0 c).arrAt_eq_of_covers 11 _ (by decide +kernel) fun t hf y => ?_
  blk_simp
  rw [after0_11]
  frame_out
  have h := (idx_rows t).2.2.2.2.2.1
  have hy : y = ix2 (⟨(y 0).val, (y 0).isLt⟩ : Fin 512) (⟨(y 1).val, (y 1).isLt⟩ : Fin 1024) := by
    funext ax; fin_cases ax <;> rfl
  have hb : (y 0).val < 512 := (y 0).isLt
  rw [hy]
  refine (at11 m c t _ _ ⟨512 * t.val + (y 0).val, row_lt t _ hb⟩ rfl).trans ?_
  refine congrArg (normedAt m c) (funext fun ax => Fin.ext ?_)
  fin_cases ax
  · show 512 * t.val + (y 0).val = win0_11.index t 0 * 512 + 1 * (y 0).val
    rw [h]; show 512 * t.val + (y 0).val = t.val * 512 + 1 * (y 0).val; omega
  · show (y 1).val = win0_11.index t 1 * 1024 + 1 * (y 1).val
    rw [h]; show (y 1).val = 0 * 1024 + 1 * (y 1).val; omega

end Cert.Kernel3Ideal.Join
-- ==== Proof.Join.Claims.lean ====
/- The claims about the joining call: its runs, and its results against the plain program's. -/
module

public import proofs.«01_k».proof.Defs
public import proofs.«01_k».proof.Proof.Join.Results
public import proofs.«01_k».proof.Proof.Gen.Kernel3.Frame
public import proofs.«01_k».proof.Proof.Join.Arrays
public import Idealize.ShloMosaic.Lib.Claim
public import Idealize.ShloMosaic.Lib.Quiescent

@[expose] public section

set_option maxRecDepth 16384

noncomputable section

namespace Cert.Kernel3Ideal.Join

open Idealize.ShloMosaic Idealize.ShloMosaic.TcCoe Idealize.SL.Sem

attribute [local instance] Cert.Kernel3.Gen.facts Cert.Kernel3Ideal.Gen.facts Cert.Reference3Ideal.Gen.facts

/-- The plain program terminates, keeps its arguments and leaves every counter at zero. -/
theorem frame_reference : quiescent_Reference3Ideal := fun m g _ =>
  (θ_run Cert.Reference3Ideal.defs _ _).mono (fun r h => ⟨fun c => (h c).2.2,
    sem_eq_zero_of_no_sems (by decide) r.2⟩) (Cert.Reference3Ideal.Value.run (F := Ideal) m g)

/-- From memories that agree on the arguments, the plain program's joined rows are those of the call's arguments. -/
theorem joined_agree (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (e0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (e1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (e2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (e3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (e4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (e5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (e6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) :
    Cert.Reference3Ideal.Join.joinedOf m' c = joinedAt m c := by
  unfold Cert.Reference3Ideal.Join.joinedOf joinedAt
  rw [e0, e1, e2, e3, e4, e5, e6]

/-- The same for the normalised rows. -/
theorem rounded_agree (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (j : Cert.Reference3Ideal.Join.joinedOf m' c = joinedAt m c)
    (e7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) :
    Cert.Reference3Ideal.Join.roundedOf m' c = normedAt m c := by
  unfold Cert.Reference3Ideal.Join.roundedOf normedAt
  rw [j, e7]

set_option maxHeartbeats 2000000 in
/-- The call's arrays are the plain program's results. -/
theorem same_results : algebraic_Kernel3Ideal_Reference3Ideal := by
  intro m g m' g' _ hagree
  refine ⟨fun c => (Cert.Kernel3Ideal.Gen.dats m 0 c).arrAt 10 (cfgs 0).N, fun c => (Cert.Kernel3Ideal.Gen.dats m 0 c).arrAt 11 (cfgs 0).N, ?_, ?_⟩
  · run_from Cert.Kernel3Ideal.Gen.run_main m g
  · refine (θ_run Cert.Reference3Ideal.defs _ _).mono (fun r h c => ?_)
      (θ_run_and (Cert.Reference3Ideal.Join.results m' g') (Cert.Reference3Ideal.Value.run (F := Ideal) m' g'))
    have E := hagree c
    have j := joined_agree m m' c E.1 E.2.1 E.2.2.1 E.2.2.2.1 E.2.2.2.2.1 E.2.2.2.2.2.1 E.2.2.2.2.2.2.1
    have k := rounded_agree m m' c j E.2.2.2.2.2.2.2.1
    exact ⟨(h.1 c).1.trans (j.trans (array10 m c).symm), (h.1 c).2.trans (k.trans (array11 m c).symm), (h.2 c).2.2⟩

end Cert.Kernel3Ideal.Join
-- ==== Proof.Route.Lanes.lean ====
/- A row's largest entry and the first place it stands at, over any number of lanes, as both programs compute them. -/
module

public import Idealize.ShloMosaic.Lib.Pointwise

@[expose] public section

noncomputable section

namespace Cert.Route

open Idealize Idealize.ShloMosaic

variable {n N : ℕ}

/-- The largest entry of a row. -/
def largest (l : Fin n → EReal) : EReal := Finset.univ.fold max ⊥ l

/-- The first place of a row's largest entry, as a word: the least of the places that hold it, the row's length standing
    at the others. -/
def place (l : Fin n → EReal) : BitVec 32 :=
  Finset.univ.fold IntOp.minsi 2147483647#32 fun k : Fin n => if l k = largest l then BitVec.ofNat 32 k.val else BitVec.ofNat 32 n

/-- Place `i` holds the row's largest entry and no place before it does. -/
def IsFirst (l : Fin n → EReal) (i : Fin n) : Prop := l i = largest l ∧ ∀ j : Fin n, j < i → l j ≠ largest l

/-- No entry exceeds the largest. -/
theorem le_largest (l : Fin n → EReal) (k : Fin n) : l k ≤ largest l :=
  (Finset.le_fold_max (l k)).2 (Or.inr ⟨k, Finset.mem_univ k, le_rfl⟩)

/-- What no entry exceeds is at least the largest. -/
theorem largest_le (l : Fin n → EReal) (b : EReal) (h : ∀ k, l k ≤ b) : largest l ≤ b :=
  (Finset.fold_max_le b).2 ⟨bot_le, fun k _ => h k⟩

/-- A largest entry above minus infinity stands somewhere. -/
theorem exists_eq (l : Fin n → EReal) (h : largest l ≠ ⊥) : ∃ k, l k = largest l := by
  rcases (Finset.le_fold_max (largest l)).1 (le_refl (largest l)) with hb | ⟨k, _, hk⟩
  · exact absurd (le_bot_iff.1 hb) h
  · exact ⟨k, le_antisymm (le_largest l k) hk⟩

/-- It stands at a first place. -/
theorem exists_first (l : Fin n → EReal) (h : largest l ≠ ⊥) : ∃ i, IsFirst l i := by
  classical
  obtain ⟨k, hk⟩ := exists_eq l h
  let S : Finset (Fin n) := Finset.univ.filter fun k => l k = largest l
  have hS : S.Nonempty := ⟨k, by simp [S, hk]⟩
  refine ⟨S.min' hS, ?_, fun j hj e => ?_⟩
  · have := S.min'_mem hS
    simpa [S] using this
  · exact absurd (S.min'_le j (by simp [S, e])) (not_le.2 hj)

/-- The signed value of the smaller of two words is the smaller of their signed values. -/
theorem toInt_minsi (a b : BitVec 32) : (IntOp.minsi a b).toInt = min a.toInt b.toInt := by
  unfold IntOp.minsi
  by_cases h : a.toInt ≤ b.toInt
  · rw [min_eq_left h]
    by_cases h' : a.slt b
    · simp [h']
    · simp only [BitVec.slt, decide_eq_true_eq, not_lt] at h'
      have e : a = b := BitVec.eq_of_toInt_eq (le_antisymm h h')
      subst e; simp
  · rw [min_eq_right (le_of_not_ge h)]
    have h' : ¬ a.slt b = true := by simp only [BitVec.slt, decide_eq_true_eq, not_lt]; omega
    simp [h']

/-- A small number's word has that number as its signed value. -/
theorem toInt_small (k : ℕ) (h : k ≤ 1000) : (BitVec.ofNat 32 k).toInt = k := by
  rw [BitVec.toInt_eq_toNat_of_lt (by rw [BitVec.toNat_ofNat]; omega), BitVec.toNat_ofNat]
  omega

/-- The computed place is the first place's word. -/
theorem place_eq (hn : n ≤ 1000) (l : Fin n → EReal) (i : Fin n) (h : IsFirst l i) : place l = BitVec.ofNat 32 i.val := by
  have hi := i.isLt
  refine BitVec.eq_of_toInt_eq ?_
  rw [toInt_small i.val (by omega)]
  unfold place
  rw [← Finset.fold_hom (op' := (min : ℤ → ℤ → ℤ)) toInt_minsi]
  refine le_antisymm ((Finset.fold_min_le _).2 (Or.inr ⟨i, Finset.mem_univ i, ?_⟩)) ((Finset.le_fold_min _).2 ⟨?_, fun k _ => ?_⟩)
  · rw [if_pos h.1, toInt_small i.val (by omega)]
  · have : (2147483647#32 : BitVec 32).toInt = 2147483647 := by decide
    rw [this]; omega
  · have hk := k.isLt
    by_cases e : l k = largest l
    · rw [if_pos e, toInt_small k.val (by omega)]
      have : ¬ k < i := fun hlt => h.2 k hlt e
      have : i.val ≤ k.val := not_lt.1 this
      omega
    · rw [if_neg e, toInt_small n hn]; omega

variable (l' : Fin N → EReal) (l : Fin n → EReal) (off : ℕ) (hN : off + n ≤ N)
  (h1 : ∀ (j : Fin n) (hj : off + j.val < N), l' ⟨off + j.val, hj⟩ = l j) (h2 : ∀ k : Fin N, (k.val < off ∨ off + n ≤ k.val) → l' k = ⊥)

include hN h1 h2 in
/-- Lanes of minus infinity around a row do not change its largest entry. -/
theorem largest_shift : largest l' = largest l := by
  refine le_antisymm (largest_le _ _ fun k => ?_) (largest_le _ _ fun j => ?_)
  · by_cases hk : k.val < off ∨ off + n ≤ k.val
    · rw [h2 k hk]; exact bot_le
    · have e : k = ⟨off + (⟨k.val - off, by omega⟩ : Fin n).val, by omega⟩ := Fin.ext (by simp; omega)
      rw [e, h1 _ (by simp only; omega)]; exact le_largest l _
  · rw [← h1 j (by omega)]; exact le_largest l' _

include hN h1 h2 in
/-- They move its first place by their number before it. -/
theorem first_shift (hb : largest l ≠ ⊥) (i : Fin n) (h : IsFirst l i) (hi : off + i.val < N) :
    IsFirst l' ⟨off + i.val, hi⟩ := by
  refine ⟨?_, fun k hk => ?_⟩
  · rw [h1, largest_shift l' l off hN h1 h2]; exact h.1
  · rw [largest_shift l' l off hN h1 h2]
    by_cases hk' : k.val < off ∨ off + n ≤ k.val
    · rw [h2 k hk']; exact fun e => hb e.symm
    · have e : k = ⟨off + (⟨k.val - off, by omega⟩ : Fin n).val, by omega⟩ := Fin.ext (by simp; omega)
      rw [e, h1]
      refine h.2 _ ?_
      have : k.val < off + i.val := hk
      show k.val - off < i.val
      omega

end Cert.Route
-- ==== Proof.Route.Plain.lean ====
/- The plain program's routing, array by array, each array read at one row. -/
module

public import proofs.«01_k».proof.Defs
public import proofs.«01_k».proof.Proof.Gen.Reference4Ideal
public import proofs.«01_k».proof.Proof.Route.Lanes
public import Idealize.ShloMosaic.Lib.Pointwise

@[expose] public section

set_option maxRecDepth 16384

noncomputable section

namespace Cert.Reference4Ideal.Route

open Idealize Idealize.ShloMosaic
open Cert.Reference4Ideal Cert.Reference4Ideal.Gen
open Cert.Route (largest place)

/-- The pattern of minus infinity is minus infinity. -/
theorem negInf : Ideal.ofBits FTy.f32 0xFF800000#32 = ⊥ := rfl

/-- A reduction along a row, read at the row. -/
theorem reduce_row {P n : ℕ} {u : Shape} {α : Type} (f : α → α → α) [Std.Commutative f] [Std.Associative f]
    (x : (⟨2, ![P, n]⟩ : Shape).Idx → α) (init : u.Idx → α) (h : (⟨2, ![P, n]⟩ : Shape).ReducesTo [1] ⟨1, ![P]⟩) (hu : 0 < u.numel) (p : Fin P) :
    Host.reduce f x init h hu (ix1 p) = Finset.univ.fold f (init (Shape.Idx.first hu)) fun k : Fin n => x (ix2 p k) := by
  rw [Host.reduce_eq_fold, h.fold_fiber_r2_a1]
  rfl

/-- A column made of a vector, read at a row. -/
theorem column {α : Type} (v : S32768.Idx → α) (p : Fin 32768) : broadcastInDim S32768x1 ![0] bcast_S32768_S32768x1_0 v (ix2 p 0) = v (ix1 p) := by
  pointwise

/-- The groups' logits of the normalised rows. -/
def groupLogits (xn : FVec Ideal S32768x1024 .f32) (w : FVec Ideal S1x1024x4 .f32) (b : FVec Ideal S1x4 .f32) : FVec Ideal S32768x4 .f32 :=
  addf (Host.dotGeneral dot_S32768x1024_S1024x4_S32768x4_1_0_0_1_n_n none xn (shapeCast _ w shapeCasts_S1x1024x4_S1024x4)) (broadcastInDim S32768x4 ![0, 1] bcast_S1x4_S32768x4_0_1 (broadcastInDim S1x4 ![1] bcast_S4_S1x4_1 (shapeCast _ b shapeCasts_S1x4_S4)))

/-- The experts' logits of the normalised rows. -/
def expertLogits (xn : FVec Ideal S32768x1024 .f32) (w : FVec Ideal S1x1024x32 .f32) (b : FVec Ideal S1x32 .f32) : FVec Ideal S32768x32 .f32 :=
  addf (Host.dotGeneral dot_S32768x1024_S1024x32_S32768x32_1_0_0_1_n_n none xn (shapeCast _ w shapeCasts_S1x1024x32_S1024x32)) (broadcastInDim S32768x32 ![0, 1] bcast_S1x32_S32768x32_0_1 (broadcastInDim S1x32 ![1] bcast_S32_S1x32_1 (shapeCast _ b shapeCasts_S1x32_S32)))

/-- The largest of each row's groups, as a vector. -/
def groupTop (l : FVec Ideal S32768x4 .f32) : FVec Ideal S32768 .f32 :=
  Host.reduce FloatOps.maximumf l (constant S_ .f32 0xFF800000#32) reducesTo_S32768x4_S32768_d1 h_S_

/-- The first group holding it. -/
def groupPlace (l : FVec Ideal S32768x4 .f32) (top : FVec Ideal S32768 .f32) : IVec S32768x1 32 :=
  broadcastInDim S32768x1 ![0] bcast_S32768_S32768x1_0 (Host.reduce IntOp.minsi (select (cmpf .oeq l (broadcastInDim S32768x4 ![0, 1] bcast_S32768x1_S32768x4_0_1 (broadcastInDim S32768x1 ![0] bcast_S32768_S32768x1_0 top))) (broadcastInDim S32768x4 ![1] bcast_S4_S32768x4_1 (iotaInDim S4 32 0)) (broadcastInDim S32768x4 ![] bcast_S_S32768x4 (constantI S_ 32 4#32))) (constantI S_ 32 2147483647#32) reducesTo_S32768x4_S32768_d1 h_S_)

/-- The exponentials of the groups' logits less the largest. -/
def groupExp (l : FVec Ideal S32768x4 .f32) (top : FVec Ideal S32768 .f32) : FVec Ideal S32768x4 .f32 :=
  Host.exp (subf l (broadcastInDim S32768x4 ![0, 1] bcast_S32768x1_S32768x4_0_1 (broadcastInDim S32768x1 ![0] bcast_S32768_S32768x1_0 (maximumf (broadcastInDim S32768 ![] bcast_S_S32768 (constant S_ .f32 0xFF800000#32)) top))))

/-- The experts' logits within the chosen group, minus infinity outside it. -/
def within (x : FVec Ideal S32768x32 .f32) (g : IVec S32768x1 32) : FVec Ideal S32768x32 .f32 :=
  select (andi (cmpi .sge (broadcastInDim S32768x32 ![0, 1] bcast_S1x32_S32768x32_0_1 (broadcastInDim S1x32 ![1] bcast_S32_S1x32_1 (iotaInDim S32 32 0))) (broadcastInDim S32768x32 ![0, 1] bcast_S32768x1_S32768x32_0_1 (muli g (broadcastInDim S32768x1 ![] bcast_S_S32768x1 (constantI S_ 32 8#32))))) (cmpi .slt (broadcastInDim S32768x32 ![0, 1] bcast_S1x32_S32768x32_0_1 (broadcastInDim S1x32 ![1] bcast_S32_S1x32_1 (iotaInDim S32 32 0))) (broadcastInDim S32768x32 ![0, 1] bcast_S32768x1_S32768x32_0_1 (addi (muli g (broadcastInDim S32768x1 ![] bcast_S_S32768x1 (constantI S_ 32 8#32))) (broadcastInDim S32768x1 ![] bcast_S_S32768x1 (constantI S_ 32 8#32)))))) x (broadcastInDim S32768x32 ![] bcast_S_S32768x32 (constant S_ .f32 0xFF800000#32))

/-- The largest of each row's experts. -/
def expertTop (x : FVec Ideal S32768x32 .f32) : FVec Ideal S32768x1 .f32 :=
  broadcastInDim S32768x1 ![0] bcast_S32768_S32768x1_0 (Host.reduce FloatOps.maximumf x (constant S_ .f32 0xFF800000#32) reducesTo_S32768x32_S32768_d1 h_S_)

/-- The first expert holding it. -/
def expertPlace (x : FVec Ideal S32768x32 .f32) (top : FVec Ideal S32768x1 .f32) : IVec S32768x1 32 :=
  broadcastInDim S32768x1 ![0] bcast_S32768_S32768x1_0 (Host.reduce IntOp.minsi (select (cmpf .oeq x (broadcastInDim S32768x32 ![0, 1] bcast_S32768x1_S32768x32_0_1 top)) (broadcastInDim S32768x32 ![1] bcast_S32_S32768x32_1 (iotaInDim S32 32 0)) (broadcastInDim S32768x32 ![] bcast_S_S32768x32 (constantI S_ 32 32#32))) (constantI S_ 32 2147483647#32) reducesTo_S32768x32_S32768_d1 h_S_)

/-- The experts without the first one chosen. -/
def without (x : FVec Ideal S32768x32 .f32) (i : IVec S32768x1 32) : FVec Ideal S32768x32 .f32 :=
  select (cmpi .eq (broadcastInDim S32768x32 ![0, 1] bcast_S1x32_S32768x32_0_1 (broadcastInDim S1x32 ![1] bcast_S32_S1x32_1 (iotaInDim S32 32 0))) (broadcastInDim S32768x32 ![0, 1] bcast_S32768x1_S32768x32_0_1 i)) (broadcastInDim S32768x32 ![] bcast_S_S32768x32 (constant S_ .f32 0xFF800000#32)) x

/-- The two chosen logits side by side. -/
def pair (a b : FVec Ideal S32768x1 .f32) : FVec Ideal S32768x2 .f32 :=
  concatenate S32768x2 1 [⟨S32768x1, a⟩, ⟨S32768x1, b⟩] concatenates_S32768x1_S32768x1_S32768x2_d1

/-- The larger of the two. -/
def pairTop (x : FVec Ideal S32768x2 .f32) : FVec Ideal S32768 .f32 :=
  Host.reduce FloatOps.maximumf x (constant S_ .f32 0xFF800000#32) reducesTo_S32768x2_S32768_d1 h_S_

/-- The exponentials of the two logits less the larger. -/
def pairExp (x : FVec Ideal S32768x2 .f32) (top : FVec Ideal S32768 .f32) : FVec Ideal S32768x2 .f32 :=
  Host.exp (subf x (broadcastInDim S32768x2 ![0, 1] bcast_S32768x1_S32768x2_0_1 (broadcastInDim S32768x1 ![0] bcast_S32768_S32768x1_0 (maximumf (broadcastInDim S32768 ![] bcast_S_S32768 (constant S_ .f32 0xFF800000#32)) top))))

/-- The softmax of the two chosen logits times the chosen group's softmax. -/
def gates (x : FVec Ideal S32768x2 .f32) (g : IVec S32768x1 32) (y : FVec Ideal S32768x4 .f32) : FVec Ideal S32768x2 .f32 :=
  mulf (Host.divf x (broadcastInDim S32768x2 ![0, 1] bcast_S32768x1_S32768x2_0_1 (broadcastInDim S32768x1 ![0] bcast_S32768_S32768x1_0 (Host.reduceAdd x (constant S_ .f32 0x00000000#32) reducesTo_S32768x2_S32768_d1 h_S_)))) (broadcastInDim S32768x2 ![0, 1] bcast_S32768x1_S32768x2_0_1 (broadcastInDim S32768x1 ![0] bcast_S32768_S32768x1_0 (Host.reduceAdd (select (cmpi .eq (broadcastInDim S32768x4 ![0, 1] bcast_S1x4_S32768x4_0_1 (broadcastInDim S1x4 ![1] bcast_S4_S1x4_1 (iotaInDim S4 32 0))) (broadcastInDim S32768x4 ![0, 1] bcast_S32768x1_S32768x4_0_1 g)) (Host.divf y (broadcastInDim S32768x4 ![0, 1] bcast_S32768x1_S32768x4_0_1 (broadcastInDim S32768x1 ![0] bcast_S32768_S32768x1_0 (Host.reduceAdd y (constant S_ .f32 0x00000000#32) reducesTo_S32768x4_S32768_d1 h_S_)))) (broadcastInDim S32768x4 ![] bcast_S_S32768x4 (constant S_ .f32 0x00000000#32))) (constant S_ .f32 0x00000000#32) reducesTo_S32768x4_S32768_d1 h_S_)))

/-- Every expert's weight for every token, one column per token. -/
def weights (i1 i2 : IVec S32768x1 32) (g : FVec Ideal S32768x2 .f32) : FVec Ideal S128x32768 .f32 :=
  transpose S128x32768 [1, 0] (select (cmpi .eq (broadcastInDim S32768x128 ![0, 1] bcast_S1x128_S32768x128_0_1 (broadcastInDim S1x128 ![1] bcast_S128_S1x128_1 (iotaInDim S128 32 0))) (broadcastInDim S32768x128 ![0, 1] bcast_S32768x1_S32768x128_0_1 i1)) (broadcastInDim S32768x128 ![0, 1] bcast_S32768x1_S32768x128_0_1 (extractStridedSlice S32768x1 ![0, 0] g slices_S32768x2_S32768x1_0_0)) (select (cmpi .eq (broadcastInDim S32768x128 ![0, 1] bcast_S1x128_S32768x128_0_1 (broadcastInDim S1x128 ![1] bcast_S128_S1x128_1 (iotaInDim S128 32 0))) (broadcastInDim S32768x128 ![0, 1] bcast_S32768x1_S32768x128_0_1 i2)) (broadcastInDim S32768x128 ![0, 1] bcast_S32768x1_S32768x128_0_1 (extractStridedSlice S32768x1 ![0, 1] g slices_S32768x2_S32768x1_0_1)) (broadcastInDim S32768x128 ![] bcast_S_S32768x128 (constant S_ .f32 0x00000000#32)))) transposes_S32768x128_S128x32768_1_0

/-- One group logit. -/
theorem groupLogits_apply (xn : FVec Ideal S32768x1024 .f32) (w : FVec Ideal S1x1024x4 .f32) (b : FVec Ideal S1x4 .f32) (p : Fin 32768) (q : Fin 4) :
    groupLogits xn w b (ix2 p q) = (∑ k : Fin 1024, xn (ix2 p k) * w (ix3 0 k q) + b (ix2 0 q) : EReal) := by
  pointwise [groupLogits]

/-- One expert logit. -/
theorem expertLogits_apply (xn : FVec Ideal S32768x1024 .f32) (w : FVec Ideal S1x1024x32 .f32) (b : FVec Ideal S1x32 .f32) (p : Fin 32768) (q : Fin 32) :
    expertLogits xn w b (ix2 p q) = (∑ k : Fin 1024, xn (ix2 p k) * w (ix3 0 k q) + b (ix2 0 q) : EReal) := by
  pointwise [expertLogits]

/-- The largest group logit of a row. -/
theorem groupTop_apply (l : FVec Ideal S32768x4 .f32) (p : Fin 32768) : groupTop l (ix1 p) = largest fun q : Fin 4 => l (ix2 p q) :=
  reduce_row (max : EReal → EReal → EReal) l _ _ _ p

/-- The first group of a row that holds it. -/
theorem groupPlace_apply (l : FVec Ideal S32768x4 .f32) (top : FVec Ideal S32768 .f32) (p : Fin 32768) (h : top (ix1 p) = largest fun q : Fin 4 => l (ix2 p q)) :
    groupPlace l top (ix2 p 0) = place fun q : Fin 4 => l (ix2 p q) := by
  unfold groupPlace
  rw [column, reduce_row]
  unfold place
  rw [← h]
  refine congrArg (fun f => Finset.fold IntOp.minsi 2147483647#32 f Finset.univ) (funext fun k => ?_)
  pointwise

/-- One group's exponential. -/
theorem groupExp_apply (l : FVec Ideal S32768x4 .f32) (top : FVec Ideal S32768 .f32) (p : Fin 32768) (q : Fin 4) :
    groupExp l top (ix2 p q) = Ideal.exp (l (ix2 p q) - max ⊥ (top (ix1 p)) : EReal) := by
  pointwise [groupExp, negInf]

/-- One expert's logit within the chosen group. -/
theorem within_apply (x : FVec Ideal S32768x32 .f32) (g : IVec S32768x1 32) (p : Fin 32768) (q : Fin 32) :
    within x g (ix2 p q) = (Scalar.select (IntOp.andi (IntOp.cmpi CmpIPredicate.sge (BitVec.ofNat 32 q.val) (IntOp.muli (g (ix2 p 0)) 8#32))
      (IntOp.cmpi CmpIPredicate.slt (BitVec.ofNat 32 q.val) (IntOp.addi (IntOp.muli (g (ix2 p 0)) 8#32) 8#32))) (x (ix2 p q)) ⊥ : EReal) := by
  pointwise [within, negInf]

/-- The largest expert logit of a row. -/
theorem expertTop_apply (x : FVec Ideal S32768x32 .f32) (p : Fin 32768) : expertTop x (ix2 p 0) = largest fun q : Fin 32 => x (ix2 p q) :=
  (column _ p).trans (reduce_row (max : EReal → EReal → EReal) x _ reducesTo_S32768x32_S32768_d1 h_S_ p)

/-- The first expert of a row that holds it. -/
theorem expertPlace_apply (x : FVec Ideal S32768x32 .f32) (top : FVec Ideal S32768x1 .f32) (p : Fin 32768) (h : top (ix2 p 0) = largest fun q : Fin 32 => x (ix2 p q)) :
    expertPlace x top (ix2 p 0) = place fun q : Fin 32 => x (ix2 p q) := by
  unfold expertPlace
  rw [column, reduce_row]
  unfold place
  rw [← h]
  refine congrArg (fun f => Finset.fold IntOp.minsi 2147483647#32 f Finset.univ) (funext fun k => ?_)
  pointwise

/-- One expert's logit, the first one chosen taken out. -/
theorem without_apply (x : FVec Ideal S32768x32 .f32) (i : IVec S32768x1 32) (p : Fin 32768) (q : Fin 32) :
    without x i (ix2 p q) = (Scalar.select (IntOp.cmpi CmpIPredicate.eq (BitVec.ofNat 32 q.val) (i (ix2 p 0))) ⊥ (x (ix2 p q)) : EReal) := by
  pointwise [without, negInf]

/-- The first of the two. -/
theorem pair_fst (a b : FVec Ideal S32768x1 .f32) (p : Fin 32768) : pair a b (ix2 p 0) = a (ix2 p 0) := by
  pointwise [pair]

/-- The second of the two. -/
theorem pair_snd (a b : FVec Ideal S32768x1 .f32) (p : Fin 32768) : pair a b (ix2 p 1) = b (ix2 p 0) := by
  pointwise [pair]

/-- The larger of the two. -/
theorem pairTop_apply (x : FVec Ideal S32768x2 .f32) (p : Fin 32768) : pairTop x (ix1 p) = largest fun q : Fin 2 => x (ix2 p q) :=
  reduce_row (max : EReal → EReal → EReal) x _ _ _ p

/-- One of the two exponentials. -/
theorem pairExp_apply (x : FVec Ideal S32768x2 .f32) (top : FVec Ideal S32768 .f32) (p : Fin 32768) (q : Fin 2) :
    pairExp x top (ix2 p q) = Ideal.exp (x (ix2 p q) - max ⊥ (top (ix1 p)) : EReal) := by
  pointwise [pairExp, negInf]

/-- One of the two gates. -/
theorem gates_apply (x : FVec Ideal S32768x2 .f32) (g : IVec S32768x1 32) (y : FVec Ideal S32768x4 .f32) (p : Fin 32768) (q : Fin 2) :
    gates x g y (ix2 p q) = (Ideal.div (x (ix2 p q)) (∑ r : Fin 2, x (ix2 p r)) * ∑ r : Fin 4,
      Scalar.select (IntOp.cmpi CmpIPredicate.eq (BitVec.ofNat 32 r.val) (g (ix2 p 0))) (Ideal.div (y (ix2 p r)) (∑ s : Fin 4, y (ix2 p s))) 0 : EReal) := by
  pointwise [gates]

/-- One weight. -/
theorem weights_apply (i1 i2 : IVec S32768x1 32) (g : FVec Ideal S32768x2 .f32) (e : Fin 128) (p : Fin 32768) :
    weights i1 i2 g (ix2 e p) = (Scalar.select (IntOp.cmpi CmpIPredicate.eq (BitVec.ofNat 32 e.val) (i1 (ix2 p 0))) (g (ix2 p 0))
      (Scalar.select (IntOp.cmpi CmpIPredicate.eq (BitVec.ofNat 32 e.val) (i2 (ix2 p 0))) (g (ix2 p 1)) 0) : EReal) := by
  pointwise [weights]

end Cert.Reference4Ideal.Route
-- ==== Proof.Route.Row.lean ====
/- One row of the routing, from its logits: the plain program's, the kernel's, and that they agree on finite logits. -/
module

public import proofs.«01_k».proof.Proof.Route.Lanes

@[expose] public section

set_option maxRecDepth 16384

noncomputable section

namespace Cert.Route

open Idealize Idealize.ShloMosaic

/-- Neither of the infinities. -/
def Fin' (x : EReal) : Prop := x ≠ ⊥ ∧ x ≠ ⊤

/-- A choice on a word made from a condition. -/
theorem select_ite {α : Type} (p : Prop) [Decidable p] (x y : α) : Scalar.select (if p then 1#1 else 0#1) x y = if p then x else y := by
  unfold Scalar.select
  by_cases h : p
  · rw [if_pos h, if_pos h]; rfl
  · rw [if_neg h, if_neg h]; rfl

/-- The word of an equality of small numbers. -/
theorem cmp_eq (a b : ℕ) (ha : a ≤ 1000) (hb : b ≤ 1000) :
    IntOp.cmpi CmpIPredicate.eq (BitVec.ofNat 32 a) (BitVec.ofNat 32 b) = if a = b then 1#1 else 0#1 := by
  by_cases h : a = b
  · subst h; simp [IntOp.cmpi]
  · have : BitVec.ofNat 32 a ≠ BitVec.ofNat 32 b := fun e => h (by
      have := congrArg BitVec.toNat e
      rw [BitVec.toNat_ofNat, BitVec.toNat_ofNat] at this
      omega)
    rw [if_neg h]
    show BitVec.ofBool (BitVec.ofNat 32 a == BitVec.ofNat 32 b) = 0#1
    rw [beq_false_of_ne this]; rfl

/-! ## The plain program's row -/

section
variable (G : Fin 4 → EReal) (X : Fin 32 → EReal)

/-- The experts of the chosen group. -/
def inGroup (e : Fin 32) : EReal :=
  Scalar.select (IntOp.andi (IntOp.cmpi CmpIPredicate.sge (BitVec.ofNat 32 e.val) (IntOp.muli (place G) 8#32))
    (IntOp.cmpi CmpIPredicate.slt (BitVec.ofNat 32 e.val) (IntOp.addi (IntOp.muli (place G) 8#32) 8#32))) (X e) ⊥

/-- Those without the first one chosen. -/
def leftIn (e : Fin 32) : EReal :=
  Scalar.select (IntOp.cmpi CmpIPredicate.eq (BitVec.ofNat 32 e.val) (place (inGroup G X))) ⊥ (inGroup G X e)

/-- The two largest. -/
def two (q : Fin 2) : EReal := if q = 0 then largest (inGroup G X) else largest (leftIn G X)

/-- Their exponentials. -/
def twoExp (q : Fin 2) : EReal := Ideal.exp (two G X q - max ⊥ (largest (two G X)))

/-- A group's exponential. -/
def grpExp (r : Fin 4) : EReal := Ideal.exp (G r - max ⊥ (largest G))

/-- A gate. -/
def gate (q : Fin 2) : EReal :=
  Ideal.div (twoExp G X q) (∑ r : Fin 2, twoExp G X r) * ∑ r : Fin 4,
    Scalar.select (IntOp.cmpi CmpIPredicate.eq (BitVec.ofNat 32 r.val) (place G)) (Ideal.div (grpExp G r) (∑ s : Fin 4, grpExp G s)) 0

/-- The plain program's weight at lane `e`. -/
def plainRow (e : Fin 128) : EReal :=
  Scalar.select (IntOp.cmpi CmpIPredicate.eq (BitVec.ofNat 32 e.val) (place (inGroup G X))) (gate G X 0)
    (Scalar.select (IntOp.cmpi CmpIPredicate.eq (BitVec.ofNat 32 e.val) (place (leftIn G X))) (gate G X 1) 0)

end

/-! ## The kernel's row -/

section
variable (L : Fin 128 → EReal)

/-- The groups' lanes. -/
def grpLanes (q : Fin 128) : EReal := Scalar.select (IntOp.cmpi CmpIPredicate.slt (BitVec.ofNat 32 q.val) 4#32) (L q) ⊥

/-- The lanes of the chosen group's experts. -/
def inLanes (q : Fin 128) : EReal :=
  Scalar.select (IntOp.andi (IntOp.cmpi CmpIPredicate.sge (BitVec.ofNat 32 q.val) (IntOp.addi 4#32 (IntOp.muli (place (grpLanes L)) 8#32)))
    (IntOp.cmpi CmpIPredicate.slt (BitVec.ofNat 32 q.val) (IntOp.addi (IntOp.addi 4#32 (IntOp.muli (place (grpLanes L)) 8#32)) 8#32))) (L q) ⊥

/-- Those without the first one chosen. -/
def leftLanes (q : Fin 128) : EReal :=
  Scalar.select (IntOp.cmpi CmpIPredicate.eq (BitVec.ofNat 32 q.val) (place (inLanes L))) ⊥ (inLanes L q)

/-- The chosen group's softmax. -/
def grpShare : EReal := Ideal.div 1 (∑ q : Fin 128, Ideal.exp (grpLanes L q - largest (grpLanes L)))

/-- The second choice's exponential, less the first choice. -/
def second : EReal := Ideal.exp (largest (leftLanes L) - largest (inLanes L))

/-- The kernel's weight at lane `e`. -/
def kernelRow (e : Fin 128) : EReal :=
  Scalar.select (IntOp.cmpi CmpIPredicate.eq (BitVec.ofNat 32 ((e.val + 128 - 124) % 128)) (place (inLanes L))) (Ideal.div (grpShare L) (1 + second L))
    (Scalar.select (IntOp.cmpi CmpIPredicate.eq (BitVec.ofNat 32 ((e.val + 128 - 124) % 128)) (place (leftLanes L))) (Ideal.div (grpShare L * second L) (1 + second L)) 0)

end

/-! ## Their agreement -/

/-- The window of group `g`'s experts, as words. -/
theorem window : ∀ (g : Fin 4) (e : Fin 32), IntOp.andi (IntOp.cmpi CmpIPredicate.sge (BitVec.ofNat 32 e.val) (IntOp.muli (BitVec.ofNat 32 g.val) 8#32))
    (IntOp.cmpi CmpIPredicate.slt (BitVec.ofNat 32 e.val) (IntOp.addi (IntOp.muli (BitVec.ofNat 32 g.val) 8#32) 8#32))
      = if 8 * g.val ≤ e.val ∧ e.val < 8 * g.val + 8 then 1#1 else 0#1 := by
  decide +kernel

/-- The window of group `g`'s lanes, as words. -/
theorem windowLanes : ∀ (g : Fin 4) (q : Fin 128), IntOp.andi (IntOp.cmpi CmpIPredicate.sge (BitVec.ofNat 32 q.val) (IntOp.addi 4#32 (IntOp.muli (BitVec.ofNat 32 g.val) 8#32)))
    (IntOp.cmpi CmpIPredicate.slt (BitVec.ofNat 32 q.val) (IntOp.addi (IntOp.addi 4#32 (IntOp.muli (BitVec.ofNat 32 g.val) 8#32)) 8#32))
      = if 4 + 8 * g.val ≤ q.val ∧ q.val < 4 + 8 * g.val + 8 then 1#1 else 0#1 := by
  decide +kernel

/-- The groups' lanes, as words. -/
theorem groupLanes : ∀ q : Fin 128, IntOp.cmpi CmpIPredicate.slt (BitVec.ofNat 32 q.val) 4#32 = if q.val < 4 then 1#1 else 0#1 := by
  decide +kernel

/-- A finite value less itself is zero. -/
theorem sub_self' (x : EReal) (h : Fin' x) : x - x = 0 := EReal.sub_self h.2 h.1

/-- Exponentials are not negative. -/
theorem exp_nonneg (x : EReal) : 0 ≤ Ideal.exp x := by
  induction x with
  | bot => exact le_refl _
  | top => exact le_top
  | coe r => exact EReal.coe_nonneg.2 (Real.exp_pos r).le

/-- The exponential of a value less itself is one. -/
theorem exp_self (x : EReal) (h : Fin' x) : Ideal.exp (x - x) = 1 := by
  rw [sub_self' x h]
  show Ideal.exp ((0 : ℝ) : EReal) = 1
  rw [Ideal.exp_coe, Real.exp_zero]; rfl

/-- Below minus infinity there is nothing: its exponential is zero. -/
theorem exp_bot_sub (x : EReal) : Ideal.exp (⊥ - x) = 0 := by
  rw [EReal.bot_sub]; rfl

/-- A quotient with a divisor that is not zero. -/
theorem div_ne (x y : EReal) (h : y ≠ 0) : Ideal.div x y = x * y⁻¹ := by
  unfold Ideal.div; rw [if_neg h]

/-- A quotient times a factor. -/
theorem div_mul (x y t : EReal) (h : y ≠ 0) : Ideal.div x y * t = Ideal.div (t * x) y := by
  rw [div_ne x y h, div_ne _ y h, mul_right_comm, mul_comm x t]

/-- A row of two with the larger one first has it as its largest. -/
theorem largest_two (l : Fin 2 → EReal) (h : l 1 ≤ l 0) : largest l = l 0 :=
  le_antisymm (largest_le _ _ fun k => by fin_cases k; exacts [le_refl _, h]) (le_largest l 0)

/-- Turned by four lanes, the lanes of the kernel are the plain program's experts. -/
theorem lanes_eq (e i j : ℕ) (he : e < 128) (hi : i < 32) (hj : j < 32) (a b : EReal) :
    Scalar.select (IntOp.cmpi CmpIPredicate.eq (BitVec.ofNat 32 ((e + 128 - 124) % 128)) (BitVec.ofNat 32 (4 + i))) a
      (Scalar.select (IntOp.cmpi CmpIPredicate.eq (BitVec.ofNat 32 ((e + 128 - 124) % 128)) (BitVec.ofNat 32 (4 + j))) b 0)
    = Scalar.select (IntOp.cmpi CmpIPredicate.eq (BitVec.ofNat 32 e) (BitVec.ofNat 32 i)) a
      (Scalar.select (IntOp.cmpi CmpIPredicate.eq (BitVec.ofNat 32 e) (BitVec.ofNat 32 j)) b 0) := by
  rw [cmp_eq _ _ (by omega) (by omega), cmp_eq _ _ (by omega) (by omega), cmp_eq _ _ (by omega) (by omega),
    cmp_eq _ _ (by omega) (by omega), select_ite, select_ite, select_ite, select_ite]
  have h1 : ((e + 128 - 124) % 128 = 4 + i) = (e = i) := propext (by omega)
  have h2 : ((e + 128 - 124) % 128 = 4 + j) = (e = j) := propext (by omega)
  simp only [h1, h2]

set_option maxHeartbeats 400000 in
/-- On finite logits both rows agree at every lane. -/
theorem row_eq (G : Fin 4 → EReal) (X : Fin 32 → EReal) (L : Fin 128 → EReal) (hG : ∀ r, Fin' (G r)) (hX : ∀ e, Fin' (X e))
    (h0 : ∀ (r : Fin 4) (h : 0 + r.val < 128), L ⟨0 + r.val, h⟩ = G r) (h4 : ∀ (e : Fin 32) (h : 4 + e.val < 128), L ⟨4 + e.val, h⟩ = X e) (e : Fin 128) :
    kernelRow L e = plainRow G X e := by
  -- the groups
  have hGb : largest G ≠ ⊥ := fun h => (hG 0).1 (le_bot_iff.1 (h ▸ le_largest G 0))
  obtain ⟨g, hg⟩ := exists_first G hGb
  have hg4 := g.isLt
  have hGf : Fin' (largest G) := hg.1 ▸ hG g
  have l1 : ∀ (r : Fin 4) (h : 0 + r.val < 128), grpLanes L ⟨0 + r.val, h⟩ = G r := fun r h => by
    unfold grpLanes
    rw [groupLanes, select_ite, if_pos (by simp), h0]
  have l2 : ∀ q : Fin 128, (q.val < 0 ∨ 0 + 4 ≤ q.val) → grpLanes L q = ⊥ := fun q hq => by
    unfold grpLanes
    rw [groupLanes, select_ite, if_neg (by omega)]
  have lG := largest_shift (grpLanes L) G 0 (by omega) l1 l2
  have pG : place G = BitVec.ofNat 32 g.val := place_eq (by omega) G g hg
  have pL : place (grpLanes L) = BitVec.ofNat 32 g.val := by
    have := place_eq (by omega) _ _ (first_shift (grpLanes L) G 0 (by omega) l1 l2 hGb g hg (by omega))
    rw [this]; simp
  -- the chosen group's experts
  have a0 : ∀ e : Fin 32, inGroup G X e = if 8 * g.val ≤ e.val ∧ e.val < 8 * g.val + 8 then X e else ⊥ := fun e => by
    unfold inGroup; rw [pG, window, select_ite]
  have b0 : ∀ q : Fin 128, inLanes L q = if 4 + 8 * g.val ≤ q.val ∧ q.val < 4 + 8 * g.val + 8 then L q else ⊥ := fun q => by
    unfold inLanes; rw [pL, windowLanes, select_ite]
  have a1 : ∀ (e : Fin 32) (h : 4 + e.val < 128), inLanes L ⟨4 + e.val, h⟩ = inGroup G X e := fun e h => by
    rw [a0, b0, h4]
    refine if_congr ?_ rfl rfl
    constructor <;> rintro ⟨u, v⟩ <;> (simp only at *; omega)
  have a2 : ∀ q : Fin 128, (q.val < 4 ∨ 4 + 32 ≤ q.val) → inLanes L q = ⊥ := fun q hq => by
    rw [b0, if_neg (by omega)]
  have lA := largest_shift (inLanes L) (inGroup G X) 4 (by omega) a1 a2
  have hAb : largest (inGroup G X) ≠ ⊥ := fun h => by
    have := le_bot_iff.1 (h ▸ le_largest (inGroup G X) ⟨8 * g.val, by omega⟩)
    rw [a0, if_pos (by simp)] at this
    exact (hX _).1 this
  obtain ⟨i, hi⟩ := exists_first _ hAb
  have hi32 := i.isLt
  have pA : place (inGroup G X) = BitVec.ofNat 32 i.val := place_eq (by omega) _ i hi
  have pB : place (inLanes L) = BitVec.ofNat 32 (4 + i.val) :=
    place_eq (by omega) _ _ (first_shift (inLanes L) (inGroup G X) 4 (by omega) a1 a2 hAb i hi (by omega))
  have hM1 : Fin' (largest (inGroup G X)) := by
    have h := hi.1
    rw [a0] at h
    by_cases hw : 8 * g.val ≤ i.val ∧ i.val < 8 * g.val + 8
    · rw [if_pos hw] at h; exact h ▸ hX i
    · rw [if_neg hw] at h; exact absurd h.symm hAb
  -- without the first choice
  have c0 : ∀ e : Fin 32, leftIn G X e = if e.val = i.val then ⊥ else inGroup G X e := fun e => by
    unfold leftIn; rw [pA, cmp_eq _ _ (by omega) (by omega), select_ite]
  have d0 : ∀ q : Fin 128, leftLanes L q = if q.val = 4 + i.val then ⊥ else inLanes L q := fun q => by
    unfold leftLanes; rw [pB, cmp_eq _ _ (by omega) (by omega), select_ite]
  have c1 : ∀ (e : Fin 32) (h : 4 + e.val < 128), leftLanes L ⟨4 + e.val, h⟩ = leftIn G X e := fun e h => by
    rw [c0, d0, a1]
    refine if_congr ?_ rfl rfl
    constructor <;> intro u <;> (simp only at *; omega)
  have c2 : ∀ q : Fin 128, (q.val < 4 ∨ 4 + 32 ≤ q.val) → leftLanes L q = ⊥ := fun q hq => by
    rw [d0, a2 q hq, ite_self]
  have lC := largest_shift (leftLanes L) (leftIn G X) 4 (by omega) c1 c2
  have hCb : largest (leftIn G X) ≠ ⊥ := fun h => by
    by_cases hw : 8 * g.val = i.val
    · have := le_bot_iff.1 (h ▸ le_largest (leftIn G X) ⟨8 * g.val + 1, by omega⟩)
      rw [c0, if_neg (by simp only; omega), a0, if_pos (by simp)] at this
      exact (hX _).1 this
    · have := le_bot_iff.1 (h ▸ le_largest (leftIn G X) ⟨8 * g.val, by omega⟩)
      rw [c0, if_neg (by simp only; omega), a0, if_pos (by simp)] at this
      exact (hX _).1 this
  obtain ⟨j, hj⟩ := exists_first _ hCb
  have hj32 := j.isLt
  have pC : place (leftIn G X) = BitVec.ofNat 32 j.val := place_eq (by omega) _ j hj
  have pD : place (leftLanes L) = BitVec.ofNat 32 (4 + j.val) :=
    place_eq (by omega) _ _ (first_shift (leftLanes L) (leftIn G X) 4 (by omega) c1 c2 hCb j hj (by omega))
  have hle : largest (leftIn G X) ≤ largest (inGroup G X) := largest_le _ _ fun e => by
    rw [c0]
    by_cases hw : e.val = i.val
    · rw [if_pos hw]; exact bot_le
    · rw [if_neg hw]; exact le_largest _ e
  -- the values
  have hT : ∑ q : Fin 128, Ideal.exp (grpLanes L q - largest (grpLanes L)) = ∑ s : Fin 4, grpExp G s := by
    rw [lG]
    refine (Fin.sum_univ_add (a := 4) (b := 124) fun q : Fin (4 + 124) => Ideal.exp (grpLanes L q - largest G)).trans ?_
    rw [Finset.sum_eq_zero (s := (Finset.univ : Finset (Fin 124))) (fun q _ => ?_), add_zero]
    · refine Finset.sum_congr rfl fun s _ => ?_
      have : grpLanes L (Fin.castAdd 124 s) = G s := by
        rw [← l1 s (by omega)]; exact congrArg (grpLanes L) (Fin.ext (Nat.zero_add _).symm)
      unfold grpExp
      rw [max_eq_right bot_le]
      exact congrArg (fun u : EReal => Ideal.exp (u - largest G)) this
    · have : grpLanes L (Fin.natAdd 4 q) = ⊥ := l2 _ (Or.inr (Nat.le_add_right 4 _))
      exact (congrArg (fun u : EReal => Ideal.exp (u - largest G)) this).trans (exp_bot_sub _)
  have hE : grpExp G g = 1 := by
    unfold grpExp; rw [max_eq_right bot_le, hg.1]; exact exp_self _ hGf
  have hT0 : (∑ s : Fin 4, grpExp G s) ≠ 0 := fun h => by
    have h1 := Finset.single_le_sum (f := grpExp G) (fun s _ => exp_nonneg _) (Finset.mem_univ g)
    rw [h, hE] at h1
    exact absurd h1 (by simp)
  have hS : (∑ r : Fin 4, Scalar.select (IntOp.cmpi CmpIPredicate.eq (BitVec.ofNat 32 r.val) (place G)) (Ideal.div (grpExp G r) (∑ s : Fin 4, grpExp G s)) 0)
      = grpShare L := by
    unfold grpShare
    rw [hT, Finset.sum_eq_single g (fun r _ hr => ?_) (fun h => absurd (Finset.mem_univ g) h)]
    · rw [pG, cmp_eq _ _ (by omega) (by omega), select_ite, if_pos rfl, hE]
    · have := r.isLt
      rw [pG, cmp_eq _ _ (by omega) (by omega), select_ite, if_neg (fun e => hr (Fin.ext e))]
  have t0 : two G X 0 = largest (inGroup G X) := if_pos rfl
  have t1 : two G X 1 = largest (leftIn G X) := if_neg (by decide)
  have tM : largest (two G X) = largest (inGroup G X) := (largest_two _ (by rw [t0, t1]; exact hle)).trans t0
  have e0 : twoExp G X 0 = 1 := by
    unfold twoExp; rw [tM, t0, max_eq_right bot_le]; exact exp_self _ hM1
  have e1 : twoExp G X 1 = second L := by
    unfold twoExp second; rw [tM, t1, max_eq_right bot_le, lA, lC]
  have hD : (1 : EReal) + second L ≠ 0 := fun h => by
    have h1 : (1 : EReal) ≤ 1 + second L := le_add_of_nonneg_right (exp_nonneg _)
    rw [h] at h1; exact absurd h1 (by simp)
  have g0 : gate G X 0 = Ideal.div (grpShare L) (1 + second L) := by
    unfold gate
    rw [hS, Fin.sum_univ_two, e0, e1, div_mul _ _ _ hD, mul_one]
  have g1 : gate G X 1 = Ideal.div (grpShare L * second L) (1 + second L) := by
    unfold gate
    rw [hS, Fin.sum_univ_two, e0, e1, div_mul _ _ _ hD]
  -- the lanes
  unfold kernelRow plainRow
  rw [g0, g1, pA, pB, pC, pD]
  exact lanes_eq e.val i.val j.val e.isLt hi32 hj32 _ _

end Cert.Route
-- ==== Proof.Route.Results.lean ====
/- The plain program's run for the routing, with its result under its own name and its logits' row. -/
module

public import proofs.«01_k».proof.Defs
public import proofs.«01_k».proof.Proof.Gen.Reference4Ideal.Run
public import proofs.«01_k».proof.Proof.Route.Plain
public import proofs.«01_k».proof.Proof.Route.Row
public import proofs.«01_k».proof.Proof.Join.Plain

@[expose] public section

set_option maxRecDepth 16384

noncomputable section

namespace Cert.Reference4Ideal.Route

open Idealize Idealize.ShloMosaic Idealize.ShloMosaic.TcCoe Idealize.SL.Sem
open Cert.Reference4Ideal Cert.Reference4Ideal.Gen
open Cert.Route (largest place inGroup leftIn two twoExp grpExp gate plainRow)
open Cert.Reference3Ideal.Join (merged joined normed gateA gateB lifted)

/-- The plain program's weights, of its groups' and its experts' logits. -/
def routed (l : FVec Ideal S32768x4 .f32) (x : FVec Ideal S32768x32 .f32) : FVec Ideal S128x32768 .f32 :=
  weights (expertPlace (within x (groupPlace l (groupTop l))) (expertTop (within x (groupPlace l (groupTop l)))))
    (expertPlace (without (within x (groupPlace l (groupTop l))) (expertPlace (within x (groupPlace l (groupTop l))) (expertTop (within x (groupPlace l (groupTop l))))))
      (expertTop (without (within x (groupPlace l (groupTop l))) (expertPlace (within x (groupPlace l (groupTop l))) (expertTop (within x (groupPlace l (groupTop l))))))))
    (gates (pairExp (pair (expertTop (within x (groupPlace l (groupTop l))))
        (expertTop (without (within x (groupPlace l (groupTop l))) (expertPlace (within x (groupPlace l (groupTop l))) (expertTop (within x (groupPlace l (groupTop l))))))))
        (pairTop (pair (expertTop (within x (groupPlace l (groupTop l))))
        (expertTop (without (within x (groupPlace l (groupTop l))) (expertPlace (within x (groupPlace l (groupTop l))) (expertTop (within x (groupPlace l (groupTop l))))))))))
      (groupPlace l (groupTop l)) (groupExp l (groupTop l)))

/-- The weights of one token are `plainRow` of its logits. -/
theorem routed_apply (l : FVec Ideal S32768x4 .f32) (x : FVec Ideal S32768x32 .f32) (e : Fin 128) (p : Fin 32768) :
    routed l x (ix2 e p) = plainRow (fun r => l (ix2 p r)) (fun r => x (ix2 p r)) e := by
  have gT := groupTop_apply l p
  have gP := groupPlace_apply l _ p gT
  unfold routed
  generalize hB : groupTop l = B at gT gP ⊢
  generalize hC : groupPlace l B = C at gP ⊢
  have w : ∀ r, within x C (ix2 p r) = inGroup (fun r => l (ix2 p r)) (fun r => x (ix2 p r)) r := fun r => by
    rw [within_apply, gP]; rfl
  generalize hD : within x C = D at w ⊢
  have dT : expertTop D (ix2 p 0) = largest (inGroup (fun r => l (ix2 p r)) (fun r => x (ix2 p r))) := by
    rw [expertTop_apply]; exact congrArg largest (funext w)
  have dP : expertPlace D (expertTop D) (ix2 p 0) = place (inGroup (fun r => l (ix2 p r)) (fun r => x (ix2 p r))) := by
    rw [expertPlace_apply D _ p (expertTop_apply D p)]; exact congrArg place (funext w)
  generalize hE : expertTop D = E at dT dP ⊢
  generalize hI : expertPlace D E = I at dP ⊢
  have v : ∀ r, without D I (ix2 p r) = leftIn (fun r => l (ix2 p r)) (fun r => x (ix2 p r)) r := fun r => by
    rw [without_apply, dP, w]; rfl
  generalize hF : without D I = F at v ⊢
  have fT : expertTop F (ix2 p 0) = largest (leftIn (fun r => l (ix2 p r)) (fun r => x (ix2 p r))) := by
    rw [expertTop_apply]; exact congrArg largest (funext v)
  have fP : expertPlace F (expertTop F) (ix2 p 0) = place (leftIn (fun r => l (ix2 p r)) (fun r => x (ix2 p r))) := by
    rw [expertPlace_apply F _ p (expertTop_apply F p)]; exact congrArg place (funext v)
  generalize hG : expertTop F = G at fT fP ⊢
  generalize hJ : expertPlace F G = J at fP ⊢
  have t : ∀ r : Fin 2, pair E G (ix2 p r) = two (fun r => l (ix2 p r)) (fun r => x (ix2 p r)) r := fun r => by
    unfold two
    fin_cases r
    · exact (pair_fst E G p).trans dT
    · exact (pair_snd E G p).trans fT
  generalize hH : pair E G = H at t ⊢
  have hT : pairTop H (ix1 p) = largest (two (fun r => l (ix2 p r)) (fun r => x (ix2 p r))) := by
    rw [pairTop_apply]; exact congrArg largest (funext t)
  generalize hK : pairTop H = K at hT ⊢
  have te : ∀ r, pairExp H K (ix2 p r) = twoExp (fun r => l (ix2 p r)) (fun r => x (ix2 p r)) r := fun r => by
    rw [pairExp_apply, hT, t]; rfl
  have ge : ∀ r, groupExp l B (ix2 p r) = grpExp (fun r => l (ix2 p r)) r := fun r => by
    rw [groupExp_apply, gT]; rfl
  generalize hL : pairExp H K = L at te ⊢
  generalize hM : groupExp l B = M at ge ⊢
  have ga : ∀ r, gates L C M (ix2 p r) = gate (fun r => l (ix2 p r)) (fun r => x (ix2 p r)) r := fun r => by
    rw [gates_apply, gP]
    simp only [te, ge]
    rfl
  rw [weights_apply, dP, fP, ga, ga]
  rfl

variable (m : (ℓ : Loc nD τ sig) → Buf (Elt Ideal) ℓ) (c : Dev nD)

/-- The plain program's normalised rows, of its arguments on device `c`. -/
def normedOf : FVec Ideal S32768x1024 .f32 :=
  normed (joined (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))) (m ((c.tc : Thread nD τ).loc main_arg7))

/-- The plain program's groups' logits, of its arguments on device `c`. -/
def groupsOf : FVec Ideal S32768x4 .f32 :=
  groupLogits (normedOf m c) (m ((c.tc : Thread nD τ).loc main_arg8)) (m ((c.tc : Thread nD τ).loc main_arg9))

/-- The plain program's experts' logits, of its arguments on device `c`. -/
def expertsOf : FVec Ideal S32768x32 .f32 :=
  expertLogits (normedOf m c) (m ((c.tc : Thread nD τ).loc main_arg10)) (m ((c.tc : Thread nD τ).loc main_arg11))

/-- The plain program's weights, of its arguments on device `c`. -/
def routedOf : FVec Ideal S128x32768 .f32 := routed (groupsOf m c) (expertsOf m c)

/-- The chosen groups. -/
def groupOf : IVec S32768x1 32 := groupPlace (groupsOf m c) (groupTop (groupsOf m c))

/-- The experts within them. -/
def withinOf : FVec Ideal S32768x32 .f32 := within (expertsOf m c) (groupOf m c)

/-- The first experts chosen. -/
def firstOf : IVec S32768x1 32 := expertPlace (withinOf m c) (expertTop (withinOf m c))

/-- The experts without them. -/
def withoutOf : FVec Ideal S32768x32 .f32 := without (withinOf m c) (firstOf m c)

/-- The two chosen logits. -/
def pairOf : FVec Ideal S32768x2 .f32 := pair (expertTop (withinOf m c)) (expertTop (withoutOf m c))

open Idealize.ShloMosaic.StableHlo in
/-- The normalised rows of the run. -/
theorem v37_eq : Value.res_main_v37 (F := Ideal) (launchContents m c) = normedOf m c := by
  unfold Value.res_main_v37 Value.res_main_v23 normedOf normed joined merged gateA gateB lifted
  rfl

open Idealize.ShloMosaic.StableHlo in
/-- The groups' logits of the run. -/
theorem v43_eq : Value.res_main_v43 (F := Ideal) (launchContents m c) = groupsOf m c := by
  unfold Value.res_main_v43
  rw [v37_eq]
  rfl

open Idealize.ShloMosaic.StableHlo in
/-- The chosen groups of the run. -/
theorem v51_eq : Value.res_main_v51 (F := Ideal) (launchContents m c) = groupOf m c := by
  unfold Value.res_main_v51
  rw [v43_eq]
  rfl

open Idealize.ShloMosaic.StableHlo in
/-- The groups' exponentials of the run. -/
theorem v63_eq : Value.res_main_v63 (F := Ideal) (launchContents m c) = groupExp (groupsOf m c) (groupTop (groupsOf m c)) := by
  unfold Value.res_main_v63
  rw [v43_eq]
  rfl

open Idealize.ShloMosaic.StableHlo in
/-- The experts within the chosen groups. -/
theorem v91_eq : Value.res_main_v91 (F := Ideal) (launchContents m c) = withinOf m c := by
  unfold Value.res_main_v91 Value.res_main_v73 Value.res_main_v71
  rw [v37_eq, v51_eq]
  rfl

open Idealize.ShloMosaic.StableHlo in
/-- Their largest. -/
theorem v94_eq : Value.res_main_v94 (F := Ideal) (launchContents m c) = expertTop (withinOf m c) := by
  unfold Value.res_main_v94
  rw [v91_eq]
  rfl

open Idealize.ShloMosaic.StableHlo in
/-- The first experts chosen. -/
theorem v99_eq : Value.res_main_v99 (F := Ideal) (launchContents m c) = firstOf m c := by
  unfold Value.res_main_v99
  rw [v91_eq, v94_eq]
  rfl

open Idealize.ShloMosaic.StableHlo in
/-- The experts without them. -/
theorem v104_eq : Value.res_main_v104 (F := Ideal) (launchContents m c) = withoutOf m c := by
  unfold Value.res_main_v104 Value.res_main_v71
  rw [v91_eq, v99_eq]
  rfl

open Idealize.ShloMosaic.StableHlo in
/-- Their largest. -/
theorem v107_eq : Value.res_main_v107 (F := Ideal) (launchContents m c) = expertTop (withoutOf m c) := by
  unfold Value.res_main_v107
  rw [v104_eq]
  rfl

open Idealize.ShloMosaic.StableHlo in
/-- The two chosen logits. -/
theorem v113_eq : Value.res_main_v113 (F := Ideal) (launchContents m c) = pairOf m c := by
  unfold Value.res_main_v113
  rw [v94_eq, v107_eq]
  rfl

open Idealize.ShloMosaic.StableHlo in
/-- Their exponentials. -/
theorem v120_eq : Value.res_main_v120 (F := Ideal) (launchContents m c) = pairExp (pairOf m c) (pairTop (pairOf m c)) := by
  unfold Value.res_main_v120
  rw [v113_eq]
  rfl

open Idealize.ShloMosaic.StableHlo in
/-- The gates. -/
theorem v126_eq : Value.res_main_v126 (F := Ideal) (launchContents m c)
    = gates (pairExp (pairOf m c) (pairTop (pairOf m c))) (groupOf m c) (groupExp (groupsOf m c) (groupTop (groupsOf m c))) := by
  unfold Value.res_main_v126
  rw [v120_eq, v51_eq, v63_eq]
  rfl

/-- From any memory with zero counters the plain program ends with the weights. -/
theorem results (g : Dev nD → PrngReg) : θ_run defs (onTc (τ := τ) (main (F := Ideal))) ⟨m, fun _ => 0, g⟩ fun r => ∀ c : Dev nD,
    r.2.mem ((c.tc : Thread nD τ).loc main_v140) = routedOf m c :=
  (θ_run defs _ _).mono (fun r h c => (h c).1.trans (by
    rw [v99_eq, v104_eq, v107_eq, v126_eq]
    unfold Value.res_main_v127
    rfl)) (Value.run (F := Ideal) m g)

end Cert.Reference4Ideal.Route
-- ==== Proof.Route.Blocks.lean ====
/- What the joining call loads at each grid point when its routing is asked for, and the rows it forms of it. -/
module

public import proofs.«01_k».proof.Defs
public import proofs.«01_k».proof.Proof.Gen.Kernel4Ideal.Value
public import proofs.«01_k».proof.Proof.Join.Plain
public import Idealize.ShloMosaic.Lib.Pointwise
public import Idealize.ShloMosaic.Lib.Pipeline.ValueKit

@[expose] public section

set_option maxRecDepth 16384

noncomputable section

namespace Cert.Kernel4Ideal.Route

open Idealize Idealize.ShloMosaic Idealize.ShloMosaic.Pipeline Idealize.ShloMosaic.TcCoe

open Cert.Kernel4Ideal Cert.Kernel4Ideal.Gen
open Cert.Reference3Ideal.Join (merged joined normed sigmoid merged_apply joined_apply normed_apply)

variable (m : (ℓ : Loc nD τ sig) → Buf (Elt Ideal) ℓ)

/-- `merged` of the call's own arguments on device `c`. -/
def mergedAt (c : Dev nD) : FVec Ideal Cert.Reference3Ideal.S32768x1024 .f32 :=
  merged (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))

/-- `joined` of the call's own arguments on device `c`. -/
def joinedAt (c : Dev nD) : FVec Ideal Cert.Reference3Ideal.S32768x1024 .f32 :=
  joined (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- `normed` of the call's own arguments on device `c`. -/
def normedAt (c : Dev nD) : FVec Ideal Cert.Reference3Ideal.S32768x1024 .f32 :=
  normed (joinedAt m c) (m ((c.tc : Thread nD τ).loc main_arg7))

/-- The logistic function is the plain program's quotient. -/
theorem logistic_eq (y : EReal) : Ideal.logistic y = sigmoid y := by
  unfold sigmoid
  rw [show Ideal.ofBits FTy.f32 0x3F800000#32 = 1 by exact Ideal.ofBits_one_f32]
  rfl

/-- Where the row windows and the first two results lie at each grid point: they move down one block per point. -/
theorem idx_rows : ∀ t : Fin cfg0.N, win0_0.index t = ![t.val, 0] ∧ win0_1.index t = ![t.val, 0] ∧ win0_2.index t = ![t.val, 0]
    ∧ win0_3.index t = ![t.val, 0] ∧ win0_10.index t = ![t.val, 0] ∧ win0_11.index t = ![t.val, 0] ∧ win0_12.index t = ![0, t.val] := by
  decide +kernel

/-- Where the weights' windows lie: always at the start. -/
theorem idx_weights : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] := by
  decide +kernel

/-- The first branch's weights, as the call receives them. -/
theorem wa_entry (c : Dev nD) (k : Fin 512) (q : Fin 1024) : V m c main_v8 (ix2 k q) = m ((c.tc : Thread nD τ).loc main_arg4) (ix3 0 k q) := by
  entry_read
  pointwise

/-- The second branch's weights, as the call receives them. -/
theorem wb_entry (c : Dev nD) (k : Fin 512) (q : Fin 1024) : V m c main_v9 (ix2 k q) = m ((c.tc : Thread nD τ).loc main_arg5) (ix3 0 k q) := by
  entry_read
  pointwise

/-- The output projection's weights, as the call receives them. -/
theorem wo_entry (c : Dev nD) (k : Fin 1024) (q : Fin 1024) : V m c main_v10 (ix2 k q) = m ((c.tc : Thread nD τ).loc main_arg6) (ix3 0 k q) := by
  entry_read
  pointwise

/-- The norm's gain, as the call receives it. -/
theorem gain_entry (c : Dev nD) (q : Fin 1024) : V m c main_v16 (ix2 0 q) = m ((c.tc : Thread nD τ).loc main_arg7) (ix2 0 q) := by
  entry_read
  pointwise

/-- The residual rows at a grid point. -/
theorem blk0_arg (c : Dev nD) (t : Fin cfg0.N) (a : Fin 512) (q : Fin 1024) (p : Fin 32768) (hp : p.val = 512 * t.val + a.val) :
    iblk m c 0 t (ix2 a q) = m ((c.tc : Thread nD τ).loc main_arg0) (ix2 p q) := by
  have e : V m c main_arg0 = m ((c.tc : Thread nD τ).loc main_arg0) := by entry_read; rfl
  rw [← e]
  unfold iblk
  change V m c main_arg0 _ = _
  generalize V m c main_arg0 = X
  refine congrArg X (funext fun ax => Fin.ext ?_)
  have h := (idx_rows t).1
  fin_cases ax
  · show win0_0.index t 0 * 512 + 1 * a.val = p.val
    rw [h]; show t.val * 512 + 1 * a.val = p.val; omega
  · show win0_0.index t 1 * 1024 + 1 * q.val = q.val
    rw [h]; show 0 * 1024 + 1 * q.val = q.val; omega

/-- The first branch's rows at a grid point. -/
theorem blk1_arg (c : Dev nD) (t : Fin cfg0.N) (a : Fin 512) (q : Fin 512) (p : Fin 32768) (hp : p.val = 512 * t.val + a.val) :
    iblk m c 1 t (ix2 a q) = m ((c.tc : Thread nD τ).loc main_arg1) (ix2 p q) := by
  have e : V m c main_arg1 = m ((c.tc : Thread nD τ).loc main_arg1) := by entry_read; rfl
  rw [← e]
  unfold iblk
  change V m c main_arg1 _ = _
  generalize V m c main_arg1 = X
  refine congrArg X (funext fun ax => Fin.ext ?_)
  have h := (idx_rows t).2.1
  fin_cases ax
  · show win0_1.index t 0 * 512 + 1 * a.val = p.val
    rw [h]; show t.val * 512 + 1 * a.val = p.val; omega
  · show win0_1.index t 1 * 512 + 1 * q.val = q.val
    rw [h]; show 0 * 512 + 1 * q.val = q.val; omega

/-- The second branch's rows at a grid point. -/
theorem blk2_arg (c : Dev nD) (t : Fin cfg0.N) (a : Fin 512) (q : Fin 512) (p : Fin 32768) (hp : p.val = 512 * t.val + a.val) :
    iblk m c 2 t (ix2 a q) = m ((c.tc : Thread nD τ).loc main_arg2) (ix2 p q) := by
  have e : V m c main_arg2 = m ((c.tc : Thread nD τ).loc main_arg2) := by entry_read; rfl
  rw [← e]
  unfold iblk
  change V m c main_arg2 _ = _
  generalize V m c main_arg2 = X
  refine congrArg X (funext fun ax => Fin.ext ?_)
  have h := (idx_rows t).2.2.1
  fin_cases ax
  · show win0_2.index t 0 * 512 + 1 * a.val = p.val
    rw [h]; show t.val * 512 + 1 * a.val = p.val; omega
  · show win0_2.index t 1 * 512 + 1 * q.val = q.val
    rw [h]; show 0 * 512 + 1 * q.val = q.val; omega

/-- The gates' rows at a grid point. -/
theorem blk3_arg (c : Dev nD) (t : Fin cfg0.N) (a : Fin 512) (q : Fin 2048) (p : Fin 32768) (hp : p.val = 512 * t.val + a.val) :
    iblk m c 3 t (ix2 a q) = m ((c.tc : Thread nD τ).loc main_arg3) (ix2 p q) := by
  have e : V m c main_arg3 = m ((c.tc : Thread nD τ).loc main_arg3) := by entry_read; rfl
  rw [← e]
  unfold iblk
  change V m c main_arg3 _ = _
  generalize V m c main_arg3 = X
  refine congrArg X (funext fun ax => Fin.ext ?_)
  have h := (idx_rows t).2.2.2.1
  fin_cases ax
  · show win0_3.index t 0 * 512 + 1 * a.val = p.val
    rw [h]; show t.val * 512 + 1 * a.val = p.val; omega
  · show win0_3.index t 1 * 2048 + 1 * q.val = q.val
    rw [h]; show 0 * 2048 + 1 * q.val = q.val; omega

/-- The first branch's weights at a grid point. -/
theorem blk4_arg (c : Dev nD) (t : Fin cfg0.N) (k : Fin 512) (q : Fin 1024) :
    iblk m c 4 t (ix2 k q) = m ((c.tc : Thread nD τ).loc main_arg4) (ix3 0 k q) := by
  refine Eq.trans ?_ (wa_entry m c k q)
  blk_ext [iblk, idx_weights t]

/-- The second branch's weights at a grid point. -/
theorem blk5_arg (c : Dev nD) (t : Fin cfg0.N) (k : Fin 512) (q : Fin 1024) :
    iblk m c 5 t (ix2 k q) = m ((c.tc : Thread nD τ).loc main_arg5) (ix3 0 k q) := by
  refine Eq.trans ?_ (wb_entry m c k q)
  blk_ext [iblk, idx_weights t]

/-- The output projection's weights at a grid point. -/
theorem blk6_arg (c : Dev nD) (t : Fin cfg0.N) (k : Fin 1024) (q : Fin 1024) :
    iblk m c 6 t (ix2 k q) = m ((c.tc : Thread nD τ).loc main_arg6) (ix3 0 k q) := by
  refine Eq.trans ?_ (wo_entry m c k q)
  blk_ext [iblk, idx_weights t]

/-- The norm's gain at a grid point. -/
theorem blk7_arg (c : Dev nD) (t : Fin cfg0.N) (q : Fin 1024) : iblk m c 7 t (ix2 0 q) = m ((c.tc : Thread nD τ).loc main_arg7) (ix2 0 q) := by
  refine Eq.trans ?_ (gain_entry m c q)
  blk_ext [iblk, idx_weights t]

/-- The body's joined rows, read at a row and a column of what it loads. -/
theorem pay2_read (ga gb : FVec Ideal S512x1024 .f32) (ya yb : FVec Ideal S512x512 .f32) (wa wb : FVec Ideal S512x1024 .bf16)
    (x : FVec Ideal S512x1024 .f32) (wo : FVec Ideal S1024x1024 .bf16) (a : Fin 512) (q : Fin 1024) :
    k0_pay2 ga gb ya wa yb wb x wo (ix2 a q) = (x (ix2 a q) + ∑ k : Fin 1024,
      (Ideal.logistic (ga (ix2 a k)) * (∑ j : Fin 512, ya (ix2 a j) * wa (ix2 j k))
        + Ideal.logistic (gb (ix2 a k)) * (∑ j : Fin 512, yb (ix2 a j) * wb (ix2 j k))) * wo (ix2 k q) : EReal) := by
  pointwise [k0_pay2]

/-- The body's rows over their root mean square, read at a row and a column. -/
theorem pay3_read (ga gb : FVec Ideal S512x1024 .f32) (ya yb : FVec Ideal S512x512 .f32) (wa wb : FVec Ideal S512x1024 .bf16)
    (x : FVec Ideal S512x1024 .f32) (wo : FVec Ideal S1024x1024 .bf16) (Y : Fin 1024 → EReal) (a : Fin 512)
    (hY : ∀ l : Fin 1024, k0_pay2 (F := Ideal) ga gb ya wa yb wb x wo (ix2 a l) = Y l) (q : Fin 1024) :
    k0_pay3 (F := Ideal) ga gb ya wa yb wb x wo (ix2 a q) = (Y q * Ideal.rsqrt (Ideal.div (∑ l : Fin 1024, Y l * Y l) (Ideal.ofBits FTy.f32 0x44800000#32)
      + Ideal.ofBits FTy.f32 0x358637BD#32) : EReal) := by
  simp only [← hY]
  generalize hZ : k0_pay2 (F := Ideal) ga gb ya wa yb wb x wo = Z
  pointwise [k0_pay3, hZ]

/-- The first half of the gates' columns, as loaded. -/
theorem loadA (X : Vec Ideal S512x2048 .f32) (a : Fin 512) (k : Fin 1024) : View.ld (Val := Elt Ideal) X r0_0 (ix2 a k) = X (ix2 a ⟨k.val, by omega⟩) := by
  refine congrArg X (funext fun ax => Fin.ext ?_)
  fin_cases ax
  · show 0 + 1 * a.val = a.val; omega
  · show 0 + 1 * k.val = k.val; omega

/-- The second half of the gates' columns, as loaded. -/
theorem loadB (X : Vec Ideal S512x2048 .f32) (a : Fin 512) (k : Fin 1024) : View.ld (Val := Elt Ideal) X r0_1 (ix2 a k) = X (ix2 a ⟨1024 + k.val, by omega⟩) := by
  refine congrArg X (funext fun ax => Fin.ext ?_)
  fin_cases ax
  · show 0 + 1 * a.val = a.val; omega
  · show 1024 + 1 * k.val = 1024 + k.val; omega

/-- One joined element at grid point `t`. -/
theorem at10 (c : Dev nD) (t : Fin cfg0.N) (a : Fin 512) (q : Fin 1024) (p : Fin 32768) (hp : p.val = 512 * t.val + a.val) :
    k0_pay2 (F := Ideal) (View.ld (iblk m c 3 t) r0_0) (View.ld (iblk m c 3 t) r0_1) (iblk m c 1 t) (iblk m c 4 t) (iblk m c 2 t)
      (iblk m c 5 t) (iblk m c 0 t) (iblk m c 6 t) (ix2 a q) = joinedAt m c (ix2 p q) := by
  refine (pay2_read _ _ _ _ _ _ _ _ a q).trans ?_
  refine Eq.trans ?_ (joined_apply _ _ _ _ _ _ _ p q).symm
  simp only [merged_apply, blk0_arg m c t _ _ p hp, blk1_arg m c t _ _ p hp, blk2_arg m c t _ _ p hp, blk4_arg, blk5_arg, blk6_arg,
    logistic_eq]
  refine congrArg _ (Finset.sum_congr rfl fun k _ => ?_)
  have hA := (loadA (iblk m c 3 t) a k).trans (blk3_arg m c t a _ p hp)
  have hB := (loadB (iblk m c 3 t) a k).trans (blk3_arg m c t a _ p hp)
  exact congrArg₂ (fun u v : EReal => (sigmoid u * _ + sigmoid v * _) * _) hA hB

/-- The body's rows over their root mean square, from the blocks it loads. -/
theorem pay22_eq (x0 : Vec Ideal S512x1024 .f32) (x1 x2 : Vec Ideal S512x512 .f32) (x3 : Vec Ideal S512x2048 .f32) (x4 x5 : Vec Ideal S512x1024 .bf16)
    (x6 : Vec Ideal S1024x1024 .bf16) (x7 : Vec Ideal S1x1024 .f32) (x8 : Vec Ideal S1024x128 .f32) (x9 : Vec Ideal S1x128 .f32) :
    k0_pay22 (F := Ideal) x0 x1 x2 x3 x4 x5 x6 x7 x8 x9 = k0_pay3 (View.ld x3 r0_0) (View.ld x3 r0_1) x1 x4 x2 x5 x0 x6 := by
  have e1 : View.ld x1 r0_2 = x1 := View.ld_unit_lit _ x1 (by decide)
  have e2 : View.ld x2 r0_2 = x2 := View.ld_unit_lit _ x2 (by decide)
  have e4 : View.ld x4 r0_3 = x4 := View.ld_unit_lit _ x4 (by decide)
  have e5 : View.ld x5 r0_3 = x5 := View.ld_unit_lit _ x5 (by decide)
  have e0 : View.ld x0 r0_3 = x0 := View.ld_unit_lit _ x0 (by decide)
  have e6 : View.ld x6 r0_4 = x6 := View.ld_unit_lit _ x6 (by decide)
  unfold k0_pay22
  rw [e0, e1, e2, e4, e5, e6]

/-- One normalised element at grid point `t`, before the gain. -/
theorem xn_at (c : Dev nD) (t : Fin cfg0.N) (a : Fin 512) (q : Fin 1024) (p : Fin 32768) (hp : p.val = 512 * t.val + a.val) :
    (k0_pay22 (F := Ideal) (iblk m c 0 t) (iblk m c 1 t) (iblk m c 2 t) (iblk m c 3 t) (iblk m c 4 t) (iblk m c 5 t) (iblk m c 6 t)
      (iblk m c 7 t) (iblk m c 8 t) (iblk m c 9 t) (ix2 a q) * m ((c.tc : Thread nD τ).loc main_arg7) (ix2 0 q) : EReal) = normedAt m c (ix2 p q) := by
  refine Eq.trans ?_ (normed_apply _ _ p q).symm
  have h := pay3_read _ _ _ _ _ _ _ _ (fun l => joinedAt m c (ix2 p l)) a (fun l => at10 m c t a l p hp) q
  rw [pay22_eq, ← h]
  rfl

/-- The groups' and the experts' routing weights side by side, and lanes of zeros. -/
def wide (wg : FVec Ideal S1x1024x4 .f32) (wx : FVec Ideal S1x1024x32 .f32) : FVec Ideal S1024x128 .f32 :=
  concatenate S1024x128 1 [⟨S1024x4, shapeCast S1024x4 wg shapeCasts_S1x1024x4_S1024x4⟩, ⟨S1024x32, shapeCast S1024x32 wx shapeCasts_S1x1024x32_S1024x32⟩,
    ⟨S1024x92, broadcastInDim S1024x92 ![] bcast_S_S1024x92 (constant S_ .f32 0x00000000#32)⟩] concatenates_S1024x4_S1024x32_S1024x92_S1024x128_d1

/-- The groups' and the experts' routing biases side by side, and lanes of zeros. -/
def wideBias (bg : FVec Ideal S1x4 .f32) (bx : FVec Ideal S1x32 .f32) : FVec Ideal S128 .f32 :=
  concatenate S128 0 [⟨S4, shapeCast S4 bg shapeCasts_S1x4_S4⟩, ⟨S32, shapeCast S32 bx shapeCasts_S1x32_S32⟩,
    ⟨S92, broadcastInDim S92 ![] bcast_S_S92 (constant S_ .f32 0x00000000#32)⟩] concatenates_S4_S32_S92_S128_d0

/-- The groups' lanes of the weights. -/
theorem wide_grp (wg : FVec Ideal S1x1024x4 .f32) (wx : FVec Ideal S1x1024x32 .f32) (k : Fin 1024) (q : Fin 4) (h : 0 + q.val < 128) :
    wide wg wx (ix2 k ⟨0 + q.val, h⟩) = wg (ix3 0 k q) := by
  have h' : 0 + q.val < 4 := by omega
  pointwise [wide]

/-- The experts' lanes of the weights. -/
theorem wide_exp (wg : FVec Ideal S1x1024x4 .f32) (wx : FVec Ideal S1x1024x32 .f32) (k : Fin 1024) (q : Fin 32) (h : 4 + q.val < 128) :
    wide wg wx (ix2 k ⟨4 + q.val, h⟩) = wx (ix3 0 k q) := by
  pointwise [wide]

/-- The groups' lanes of the biases. -/
theorem wideBias_grp (wg : FVec Ideal S1x4 .f32) (wx : FVec Ideal S1x32 .f32) (q : Fin 4) (h : 0 + q.val < 128) :
    wideBias wg wx (ix1 ⟨0 + q.val, h⟩) = wg (ix2 0 q) := by
  pointwise [wideBias]

/-- The experts' lanes of the biases. -/
theorem wideBias_exp (wg : FVec Ideal S1x4 .f32) (wx : FVec Ideal S1x32 .f32) (q : Fin 32) (h : 4 + q.val < 128) :
    wideBias wg wx (ix1 ⟨4 + q.val, h⟩) = wx (ix2 0 q) := by
  pointwise [wideBias]

/-- The weights, as the call receives them. -/
theorem wr_entry (c : Dev nD) : V m c main_v12 = wide (m ((c.tc : Thread nD τ).loc main_arg8)) (m ((c.tc : Thread nD τ).loc main_arg10)) := by
  show StableHlo.after hostOps0 _ _ = _
  unfold hostOps0
  after_results
  rfl

/-- The biases, as the call receives them. -/
theorem br_entry (c : Dev nD) : V m c main_v15 = shapeCast S1x128 (wideBias (m ((c.tc : Thread nD τ).loc main_arg9)) (m ((c.tc : Thread nD τ).loc main_arg11))) shapeCasts_S128_S1x128 := by
  show StableHlo.after hostOps0 _ _ = _
  unfold hostOps0
  after_results
  rfl

/-- The routing weights at a grid point. -/
theorem blk8_arg (c : Dev nD) (t : Fin cfg0.N) (k : Fin 1024) (q : Fin 128) : iblk m c 8 t (ix2 k q) = V m c main_v12 (ix2 k q) := by
  blk_ext [iblk, idx_weights t]

/-- The routing biases at a grid point. -/
theorem blk9_arg (c : Dev nD) (t : Fin cfg0.N) (q : Fin 128) : iblk m c 9 t (ix2 0 q) = V m c main_v15 (ix2 0 q) := by
  blk_ext [iblk, idx_weights t]

end Cert.Kernel4Ideal.Route
-- ==== Proof.Route.Reads.lean ====
/- What the joining call's body computes for the routing, stage by stage, each stage read at one row. -/
module

public import proofs.«01_k».proof.Defs
public import proofs.«01_k».proof.Proof.Gen.Kernel4Ideal.Value
public import proofs.«01_k».proof.Proof.Route.Row
public import Idealize.ShloMosaic.Lib.Pointwise

@[expose] public section

set_option maxRecDepth 16384

noncomputable section

namespace Cert.Kernel4Ideal.Route

open Idealize Idealize.ShloMosaic
open Cert.Kernel4Ideal Cert.Kernel4Ideal.Gen
open Cert.Route (largest place grpLanes inLanes leftLanes grpShare second kernelRow)

/-- The pattern of minus infinity is minus infinity. -/
theorem negInf : Ideal.ofBits FTy.f32 0xFF800000#32 = ⊥ := rfl

/-- The pattern of one is one. -/
theorem oneBits : Ideal.ofBits FTy.f32 0x3F800000#32 = 1 := Ideal.ofBits_one_f32

section
variable (v33 : FVec Ideal S512x1024 .f32) (v34 : Vec Ideal S1x1024 .f32) (v40 : Vec Ideal S1024x128 .f32) (v55 : Vec Ideal S1x128 .f32) (a : Fin 512)

/-- The row of logits the body computes. -/
def logits (q : Fin 128) : EReal := k0_pay6 (F := Ideal) v33 v34 v40 v55 (ix2 a q)

/-- The groups' lanes. -/
theorem pay7_read (q : Fin 128) : k0_pay7 (F := Ideal) v33 v34 v40 v55 (ix2 a q) = grpLanes (logits v33 v34 v40 v55 a) q := by
  unfold grpLanes logits
  generalize hY : k0_pay6 (F := Ideal) v33 v34 v40 v55 = Y
  pointwise [k0_pay7, hY, negInf]

/-- Their largest. -/
theorem pay8_read : k0_pay8 (F := Ideal) v33 v34 v40 v55 (ix2 a 0) = largest (grpLanes (logits v33 v34 v40 v55 a)) := by
  have h := pay7_read v33 v34 v40 v55 a
  unfold largest
  simp only [← h]
  generalize hY : k0_pay7 (F := Ideal) v33 v34 v40 v55 = Y
  pointwise [k0_pay8, hY, negInf]

/-- The first of them that holds it. -/
theorem pay9_read : k0_pay9 (F := Ideal) v33 v34 v40 v55 (ix2 a 0) = place (grpLanes (logits v33 v34 v40 v55 a)) := by
  have h := pay7_read v33 v34 v40 v55 a
  have h' := pay8_read v33 v34 v40 v55 a
  unfold place
  simp only [← h, ← h']
  generalize hY : k0_pay7 (F := Ideal) v33 v34 v40 v55 = Y
  generalize hM : k0_pay8 (F := Ideal) v33 v34 v40 v55 = M
  pointwise [k0_pay9, hY, hM]

/-- The sum of their exponentials. -/
theorem pay10_read : k0_pay10 (F := Ideal) v33 v34 v40 v55 (ix1 a)
    = (∑ q : Fin 128, Ideal.exp (grpLanes (logits v33 v34 v40 v55 a) q - largest (grpLanes (logits v33 v34 v40 v55 a))) : EReal) := by
  have h := pay7_read v33 v34 v40 v55 a
  have h' := pay8_read v33 v34 v40 v55 a
  simp only [← h, ← h']
  generalize hY : k0_pay7 (F := Ideal) v33 v34 v40 v55 = Y
  generalize hM : k0_pay8 (F := Ideal) v33 v34 v40 v55 = M
  pointwise [k0_pay10, hY, hM]

end

section
variable (v58 : FVec Ideal S512x128 .f32) (v71 : IVec S512x1 32) (v75 : FVec Ideal S512 .f32) (a : Fin 512)

/-- A row of logits. -/
def row (q : Fin 128) : EReal := v58 (ix2 a q)

/-- The lanes' numbers. -/
def lanes : IVec S512x128 32 := iota .tc S512x128 32 [1] iota_S512x128_d1_w32

variable (h71 : v71 (ix2 a 0) = place (grpLanes (row v58 a)))
include h71

/-- The chosen group's lanes. -/
theorem pay12_read (q : Fin 128) : k0_pay12 (F := Ideal) v58 lanes v71 (ix2 a q) = inLanes (row v58 a) q := by
  unfold inLanes
  rw [← h71]
  unfold row lanes
  pointwise [k0_pay12, negInf]

/-- Their largest. -/
theorem pay13_read : k0_pay13 (F := Ideal) v58 lanes v71 (ix2 a 0) = largest (inLanes (row v58 a)) := by
  have h := pay12_read v58 v71 a h71
  unfold largest
  simp only [← h]
  generalize hY : k0_pay12 (F := Ideal) v58 lanes v71 = Y
  pointwise [k0_pay13, hY, negInf]

/-- The first of them that holds it. -/
theorem pay14_read : k0_pay14 (F := Ideal) v58 lanes v71 (ix2 a 0) = place (inLanes (row v58 a)) := by
  have h := pay12_read v58 v71 a h71
  have h' := pay13_read v58 v71 a h71
  unfold place
  simp only [← h, ← h']
  generalize hY : k0_pay12 (F := Ideal) v58 lanes v71 = Y
  generalize hM : k0_pay13 (F := Ideal) v58 lanes v71 = M
  unfold lanes at hY hM ⊢
  pointwise [k0_pay14, hY, hM]

/-- The lanes without it. -/
theorem pay15_read (q : Fin 128) : k0_pay15 (F := Ideal) v58 lanes v71 (ix2 a q) = leftLanes (row v58 a) q := by
  have h := pay12_read v58 v71 a h71
  have h' := pay14_read v58 v71 a h71
  unfold leftLanes
  simp only [← h, ← h']
  generalize hY : k0_pay12 (F := Ideal) v58 lanes v71 = Y
  generalize hM : k0_pay14 (F := Ideal) v58 lanes v71 = M
  unfold lanes at hY hM ⊢
  pointwise [k0_pay15, hY, hM, negInf]

/-- Their largest. -/
theorem pay16_read : k0_pay16 (F := Ideal) v58 lanes v71 (ix2 a 0) = largest (leftLanes (row v58 a)) := by
  have h := pay15_read v58 v71 a h71
  unfold largest
  simp only [← h]
  generalize hY : k0_pay15 (F := Ideal) v58 lanes v71 = Y
  pointwise [k0_pay16, hY, negInf]

/-- The first of them that holds it. -/
theorem pay17_read : k0_pay17 (F := Ideal) v58 lanes v71 (ix2 a 0) = place (leftLanes (row v58 a)) := by
  have h := pay15_read v58 v71 a h71
  have h' := pay16_read v58 v71 a h71
  unfold place
  simp only [← h, ← h']
  generalize hY : k0_pay15 (F := Ideal) v58 lanes v71 = Y
  generalize hM : k0_pay16 (F := Ideal) v58 lanes v71 = M
  unfold lanes at hY hM ⊢
  pointwise [k0_pay17, hY, hM]

/-- The second choice's exponential, less the first choice. -/
theorem pay18_read : k0_pay18 (F := Ideal) v58 lanes v71 (ix2 a 0) = second (row v58 a) := by
  have h := pay13_read v58 v71 a h71
  have h' := pay16_read v58 v71 a h71
  unfold second
  simp only [← h, ← h']
  generalize hY : k0_pay13 (F := Ideal) v58 lanes v71 = Y
  generalize hM : k0_pay16 (F := Ideal) v58 lanes v71 = M
  pointwise [k0_pay18, hY, hM]

variable (h75 : v75 (ix1 a) = (∑ q : Fin 128, Ideal.exp (grpLanes (row v58 a) q - largest (grpLanes (row v58 a))) : EReal))
include h75

/-- The first choice's gate. -/
theorem pay19_read : k0_pay19 (F := Ideal) v58 lanes v71 v75 (ix2 a 0) = Ideal.div (grpShare (row v58 a)) (1 + second (row v58 a)) := by
  unfold grpShare
  rw [← h75, ← pay18_read v58 v71 a h71]
  generalize hY : k0_pay18 (F := Ideal) v58 lanes v71 = Y
  pointwise [k0_pay19, k0_pay11, hY, oneBits]

/-- The second choice's gate. -/
theorem pay20_read : k0_pay20 (F := Ideal) v58 lanes v71 v75 (ix2 a 0) = Ideal.div (grpShare (row v58 a) * second (row v58 a)) (1 + second (row v58 a)) := by
  unfold grpShare
  rw [← h75, ← pay18_read v58 v71 a h71]
  generalize hY : k0_pay18 (F := Ideal) v58 lanes v71 = Y
  pointwise [k0_pay20, k0_pay11, hY, oneBits]

/-- The weight the body writes for a lane and a row. -/
theorem pay1_read (q : Fin 128) : k0_pay1 (F := Ideal) lanes (k0_pay17 v58 lanes v71) (k0_pay19 v58 lanes v71 v75) (k0_pay20 v58 lanes v71 v75)
    (k0_pay21 (F := Ideal) v58 lanes v71) (ix2 q a) = kernelRow (row v58 a) q := by
  have e17 := pay17_read v58 v71 a h71
  have e19 := pay19_read v58 v71 v75 a h71 h75
  have e20 := pay20_read v58 v71 v75 a h71 h75
  have e14 := pay14_read v58 v71 a h71
  unfold kernelRow
  rw [← e17, ← e19, ← e20, ← e14]
  generalize hA : k0_pay17 (F := Ideal) v58 lanes v71 = A
  generalize hB : k0_pay19 (F := Ideal) v58 lanes v71 v75 = B
  generalize hC : k0_pay20 (F := Ideal) v58 lanes v71 v75 = C
  generalize hD : k0_pay14 (F := Ideal) v58 lanes v71 = D
  unfold k0_pay21 lanes
  rw [show k0_pay14 (F := Ideal) v58 (iota .tc S512x128 32 [1] iota_S512x128_d1_w32) v71 = D from hD]
  pointwise [k0_pay1]

end

/-- The row the body writes, from the rows and weights it loads. -/
theorem row_read (v33 : FVec Ideal S512x1024 .f32) (v34 : Vec Ideal S1x1024 .f32) (v40 : Vec Ideal S1024x128 .f32) (v55 : Vec Ideal S1x128 .f32) (a : Fin 512) (q : Fin 128) :
    k0_pay1 (F := Ideal) lanes (k0_pay17 (k0_pay6 v33 v34 v40 v55) lanes (k0_pay9 v33 v34 v40 v55))
      (k0_pay19 (k0_pay6 v33 v34 v40 v55) lanes (k0_pay9 v33 v34 v40 v55) (k0_pay10 v33 v34 v40 v55))
      (k0_pay20 (k0_pay6 v33 v34 v40 v55) lanes (k0_pay9 v33 v34 v40 v55) (k0_pay10 v33 v34 v40 v55))
      (k0_pay21 (F := Ideal) (k0_pay6 v33 v34 v40 v55) lanes (k0_pay9 v33 v34 v40 v55)) (ix2 q a) = kernelRow (logits v33 v34 v40 v55 a) q :=
  pay1_read (k0_pay6 v33 v34 v40 v55) (k0_pay9 v33 v34 v40 v55) (k0_pay10 v33 v34 v40 v55) a (pay9_read v33 v34 v40 v55 a) (pay10_read v33 v34 v40 v55 a) q

/-- One logit, as the body splits it: the exact parts and the parts left over. -/
theorem logits_read (v33 : FVec Ideal S512x1024 .f32) (v34 : Vec Ideal S1x1024 .f32) (v40 : Vec Ideal S1024x128 .f32) (v55 : Vec Ideal S1x128 .f32) (a : Fin 512) (q : Fin 128) :
    logits v33 v34 v40 v55 a q = (∑ k : Fin 1024, v33 (ix2 a k) * v34 (ix2 0 k) * v40 (ix2 k q)
      + (∑ k : Fin 1024, v33 (ix2 a k) * v34 (ix2 0 k) * (v40 (ix2 k q) - v40 (ix2 k q))
        + ∑ k : Fin 1024, (v33 (ix2 a k) * v34 (ix2 0 k) - v33 (ix2 a k) * v34 (ix2 0 k)) * v40 (ix2 k q)) + v55 (ix2 0 q) : EReal) := by
  unfold logits
  pointwise [k0_pay6, k0_pay4]

end Cert.Kernel4Ideal.Route
-- ==== Proof.Route.Finite.lean ====
/- Sums and products of values that are no infinities are none, and so is an entry over its row's root mean square. -/
module

public import proofs.«01_k».proof.Proof.Route.Row

@[expose] public section

noncomputable section

namespace Cert.Route

open Idealize Idealize.ShloMosaic

/-- A value that is no infinity is a real number. -/
theorem real_of (x : EReal) (h : Fin' x) : ∃ r : ℝ, x = (r : EReal) := by
  induction x with
  | bot => exact absurd rfl h.1
  | top => exact absurd rfl h.2
  | coe r => exact ⟨r, rfl⟩

/-- A real number is no infinity. -/
theorem fin_coe (r : ℝ) : Fin' (r : EReal) := ⟨EReal.coe_ne_bot r, EReal.coe_ne_top r⟩

/-- Sums of two. -/
theorem fin_add (x y : EReal) (hx : Fin' x) (hy : Fin' y) : Fin' (x + y) := by
  obtain ⟨a, rfl⟩ := real_of x hx
  obtain ⟨b, rfl⟩ := real_of y hy
  rw [← EReal.coe_add]; exact fin_coe _

/-- Products of two. -/
theorem fin_mul (x y : EReal) (hx : Fin' x) (hy : Fin' y) : Fin' (x * y) := by
  obtain ⟨a, rfl⟩ := real_of x hx
  obtain ⟨b, rfl⟩ := real_of y hy
  rw [← EReal.coe_mul]; exact fin_coe _

/-- Sums of many. -/
theorem fin_sum {n : ℕ} (f : Fin n → EReal) (h : ∀ k, Fin' (f k)) : Fin' (∑ k, f k) := by
  refine Finset.sum_induction f Fin' (fun x y hx hy => fin_add x y hx hy) ?_ fun k _ => h k
  exact fin_coe 0

/-- A value whose magnitude compares below infinity is no infinity. -/
theorem fin_of_word (x : EReal) (h : FloatOps.cmpf (F := Ideal) (φ := .f32) .olt (FloatOps.hostAbsf (F := Ideal) (φ := .f32) x) (FloatOps.ofBits (F := Ideal) .f32 0x7F800000#32) = 1#1) :
    Fin' x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have h2 : max x (-x) < ⊤ := by
    by_contra hn
    rw [show Ideal.cmp .olt (max x (-x)) (⊤ : EReal) = 0#1 by simp [Ideal.cmp, hn]] at h'
    exact absurd h' (by decide)
  refine ⟨fun e => ?_, fun e => ?_⟩
  · subst e; exact absurd h2 (by simp)
  · subst e; exact absurd h2 (by simp)

/-- The norm's small constant is a positive real. -/
theorem eps_pos : ∃ r : ℝ, 0 < r ∧ Ideal.ofBits FTy.f32 0x358637BD#32 = (r : EReal) := by
  refine ⟨_, ?_, by simp [Ideal.ofBits, Ideal.ieee, -EReal.coe_mul]; rfl⟩
  norm_num

/-- The number of columns is a positive real. -/
theorem cols_pos : ∃ r : ℝ, 0 < r ∧ Ideal.ofBits FTy.f32 0x44800000#32 = (r : EReal) := by
  refine ⟨_, ?_, by simp [Ideal.ofBits, Ideal.ieee, -EReal.coe_mul]; rfl⟩
  norm_num

/-- Squares are not negative. -/
theorem sq_nonneg' (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

/-- An entry over its row's root mean square is no infinity, whatever the row. -/
theorem fin_norm (Y : Fin 1024 → EReal) (q : Fin 1024) :
    Fin' (Y q * Ideal.rsqrt (Ideal.div (∑ l : Fin 1024, Y l * Y l) (Ideal.ofBits FTy.f32 0x44800000#32) + Ideal.ofBits FTy.f32 0x358637BD#32)) := by
  obtain ⟨e, he, ee⟩ := eps_pos
  obtain ⟨d, hd, ed⟩ := cols_pos
  rw [ee, ed]
  have hd0 : (d : EReal) ≠ 0 := fun h => hd.ne' (EReal.coe_eq_zero.1 h)
  rw [div_ne _ _ hd0, ← EReal.coe_inv]
  have hS : 0 ≤ ∑ l : Fin 1024, Y l * Y l := Finset.sum_nonneg fun l _ => sq_nonneg' (Y l)
  have hle : Y q * Y q ≤ ∑ l : Fin 1024, Y l * Y l := Finset.single_le_sum (f := fun l => Y l * Y l) (fun l _ => sq_nonneg' (Y l)) (Finset.mem_univ q)
  generalize (∑ l : Fin 1024, Y l * Y l) = S at hS hle ⊢
  induction S with
  | bot => exact absurd hS (by simp)
  | top =>
    rw [EReal.top_mul_coe_of_pos (inv_pos.2 hd), EReal.top_add_coe]
    show Fin' (Y q * 0)
    rw [mul_zero]
    exact fin_coe 0
  | coe s =>
    have hs : 0 ≤ s := EReal.coe_nonneg.1 hS
    have hY : Fin' (Y q) := by
      refine ⟨fun h => ?_, fun h => ?_⟩
      · rw [h, EReal.bot_mul_bot] at hle; exact absurd (top_le_iff.1 hle) (EReal.coe_ne_top s)
      · rw [h, EReal.top_mul_top] at hle; exact absurd (top_le_iff.1 hle) (EReal.coe_ne_top s)
    rw [← EReal.coe_mul, ← EReal.coe_add]
    have hp : 0 < s * d⁻¹ + e := add_pos_of_nonneg_of_pos (mul_nonneg hs (inv_pos.2 hd).le) he
    have hr : Ideal.rsqrt ((s * d⁻¹ + e : ℝ) : EReal) = (((Real.sqrt (s * d⁻¹ + e))⁻¹ : ℝ) : EReal) := by
      show (if s * d⁻¹ + e < 0 then (⊥ : EReal) else if s * d⁻¹ + e = 0 then ⊤ else (((Real.sqrt (s * d⁻¹ + e))⁻¹ : ℝ) : EReal)) = _
      rw [if_neg (not_lt.2 hp.le), if_neg hp.ne']
    rw [hr]
    exact fin_mul _ _ hY (fin_coe _)

/-- A finite row times finite weights, plus a finite bias. -/
theorem fin_logit (x w : Fin 1024 → EReal) (b : EReal) (hx : ∀ k, Fin' (x k)) (hw : ∀ k, Fin' (w k)) (hb : Fin' b) : Fin' (∑ k, x k * w k + b) :=
  fin_add _ _ (fin_sum _ fun k => fin_mul _ _ (hx k) (hw k)) hb

/-- A finite row's split product leaves nothing over. -/
theorem split_logit (x w : Fin 1024 → EReal) (b : EReal) (hx : ∀ k, Fin' (x k)) (hw : ∀ k, Fin' (w k)) :
    ∑ k, x k * w k + (∑ k, x k * (w k - w k) + ∑ k, (x k - x k) * w k) + b = ∑ k, x k * w k + b := by
  have h1 : ∑ k, x k * (w k - w k) = 0 := Finset.sum_eq_zero fun k _ => by rw [sub_self' _ (hw k), mul_zero]
  have h2 : ∑ k, (x k - x k) * w k = 0 := Finset.sum_eq_zero fun k _ => by rw [sub_self' _ (hx k), zero_mul]
  rw [h1, h2, add_zero, add_zero]

end Cert.Route
-- ==== Proof.Route.Arrays.lean ====
/- The third array the joining call leaves: every expert's weight for every token, stated as the plain program's own term
   of the arguments, for arguments of the norm and of the routing that are no infinities. -/
module

public import proofs.«01_k».proof.Defs
public import proofs.«01_k».proof.Proof.Route.Blocks
public import proofs.«01_k».proof.Proof.Route.Reads
public import proofs.«01_k».proof.Proof.Route.Finite
public import proofs.«01_k».proof.Proof.Route.Results
public import Idealize.ShloMosaic.Lib.Pointwise
public import Idealize.ShloMosaic.Lib.Pipeline.ValueKit

@[expose] public section

set_option maxRecDepth 16384

noncomputable section

namespace Cert.Kernel4Ideal.Route

open Idealize Idealize.ShloMosaic Idealize.ShloMosaic.Pipeline Idealize.ShloMosaic.TcCoe
open Cert.Kernel4Ideal Cert.Kernel4Ideal.Gen
open Cert.Route (Fin' fin_mul fin_norm fin_logit split_logit row_eq kernelRow plainRow)
open Cert.Reference4Ideal.Route (groupLogits expertLogits routed groupLogits_apply expertLogits_apply routed_apply)
open Cert.Reference3Ideal.Join (normed_apply)

variable (m : (ℓ : Loc nD τ sig) → Buf (Elt Ideal) ℓ) (c : Dev nD)

/-- The groups' logits of the call's own arguments on device `c`. -/
def groupsAt : FVec Ideal Cert.Reference4Ideal.S32768x4 .f32 :=
  groupLogits (normedAt m c) (m ((c.tc : Thread nD τ).loc main_arg8)) (m ((c.tc : Thread nD τ).loc main_arg9))

/-- The experts' logits of the call's own arguments on device `c`. -/
def expertsAt : FVec Ideal Cert.Reference4Ideal.S32768x32 .f32 :=
  expertLogits (normedAt m c) (m ((c.tc : Thread nD τ).loc main_arg10)) (m ((c.tc : Thread nD τ).loc main_arg11))

/-- The weights of the call's own arguments on device `c`. -/
def routedAt : FVec Ideal Cert.Reference4Ideal.S128x32768 .f32 := routed (groupsAt m c) (expertsAt m c)

/-- The norm's and the routing's arguments on device `c` hold no infinities. -/
structure NoInf : Prop where
  gain : ∀ q : Fin 1024, Fin' (m ((c.tc : Thread nD τ).loc main_arg7) (ix2 0 q))
  grp : ∀ (k : Fin 1024) (q : Fin 4), Fin' (m ((c.tc : Thread nD τ).loc main_arg8) (ix3 0 k q))
  grpBias : ∀ q : Fin 4, Fin' (m ((c.tc : Thread nD τ).loc main_arg9) (ix2 0 q))
  exp : ∀ (k : Fin 1024) (q : Fin 32), Fin' (m ((c.tc : Thread nD τ).loc main_arg10) (ix3 0 k q))
  expBias : ∀ q : Fin 32, Fin' (m ((c.tc : Thread nD τ).loc main_arg11) (ix2 0 q))

/-- The row the body writes, from the blocks it loads. -/
theorem body_read (x0 : Vec Ideal S512x1024 .f32) (x1 x2 : Vec Ideal S512x512 .f32) (x3 : Vec Ideal S512x2048 .f32) (x4 x5 : Vec Ideal S512x1024 .bf16)
    (x6 : Vec Ideal S1024x1024 .bf16) (x7 : Vec Ideal S1x1024 .f32) (x8 : Vec Ideal S1024x128 .f32) (x9 : Vec Ideal S1x128 .f32) (a : Fin 512) (q : Fin 128) :
    k0_pay1 (F := Ideal) (k0_pay23 x0 x1 x2 x3 x4 x5 x6 x7 x8 x9)
      (k0_pay17 (k0_pay24 x0 x1 x2 x3 x4 x5 x6 x7 x8 x9) (k0_pay23 x0 x1 x2 x3 x4 x5 x6 x7 x8 x9) (k0_pay25 x0 x1 x2 x3 x4 x5 x6 x7 x8 x9))
      (k0_pay19 (k0_pay24 x0 x1 x2 x3 x4 x5 x6 x7 x8 x9) (k0_pay23 x0 x1 x2 x3 x4 x5 x6 x7 x8 x9) (k0_pay25 x0 x1 x2 x3 x4 x5 x6 x7 x8 x9) (k0_pay26 x0 x1 x2 x3 x4 x5 x6 x7 x8 x9))
      (k0_pay20 (k0_pay24 x0 x1 x2 x3 x4 x5 x6 x7 x8 x9) (k0_pay23 x0 x1 x2 x3 x4 x5 x6 x7 x8 x9) (k0_pay25 x0 x1 x2 x3 x4 x5 x6 x7 x8 x9) (k0_pay26 x0 x1 x2 x3 x4 x5 x6 x7 x8 x9))
      (k0_pay21 (k0_pay24 x0 x1 x2 x3 x4 x5 x6 x7 x8 x9) (k0_pay23 x0 x1 x2 x3 x4 x5 x6 x7 x8 x9) (k0_pay25 x0 x1 x2 x3 x4 x5 x6 x7 x8 x9)) (ix2 q a)
    = kernelRow (logits (k0_pay22 x0 x1 x2 x3 x4 x5 x6 x7 x8 x9) x7 x8 x9 a) q := by
  have e7 : View.ld x7 r0_5 = x7 := View.ld_unit_lit _ x7 (by decide)
  have e8 : View.ld x8 r0_6 = x8 := View.ld_unit_lit _ x8 (by decide)
  have e9 : View.ld x9 r0_7 = x9 := View.ld_unit_lit _ x9 (by decide)
  unfold k0_pay23 k0_pay24 k0_pay25 k0_pay26
  rw [e7, e8, e9]
  exact row_read _ _ _ _ a q

variable (hf : NoInf m c)
include hf

/-- The normalised rows hold no infinities, whatever the rows. -/
theorem fin_normed (p : Fin 32768) (k : Fin 1024) : Fin' (normedAt m c (ix2 p k)) := by
  unfold normedAt
  rw [normed_apply]
  exact fin_mul _ _ (fin_norm (fun l => joinedAt m c (ix2 p l)) k) (hf.gain k)

variable (t : Fin cfg0.N) (a : Fin 512) (p : Fin 32768) (hp : p.val = 512 * t.val + a.val)
include hp

/-- The rows the body computes the logits of. -/
abbrev rows : FVec Ideal S512x1024 .f32 := k0_pay22 (F := Ideal) (iblk m c 0 t) (iblk m c 1 t) (iblk m c 2 t) (iblk m c 3 t) (iblk m c 4 t) (iblk m c 5 t) (iblk m c 6 t)
  (iblk m c 7 t) (iblk m c 8 t) (iblk m c 9 t)

/-- One logit of the body, for weights and a bias that are no infinities. -/
theorem logit_at (q : Fin 128) (w : Fin 1024 → EReal) (b : EReal) (hw : ∀ k, V m c main_v12 (ix2 k q) = w k) (hb : V m c main_v15 (ix2 0 q) = b) (hwf : ∀ k, Fin' (w k)) :
    logits (rows m c t) (iblk m c 7 t) (iblk m c 8 t) (iblk m c 9 t) a q = (∑ k : Fin 1024, normedAt m c (ix2 p k) * w k + b : EReal) := by
  have hx : ∀ k : Fin 1024, (rows m c t (ix2 a k) * iblk m c 7 t (ix2 0 k) : EReal) = normedAt m c (ix2 p k) := fun k => by
    rw [blk7_arg]; exact xn_at m c t a k p hp
  have h8 : ∀ k : Fin 1024, iblk m c 8 t (ix2 k q) = w k := fun k => (blk8_arg m c t k q).trans (hw k)
  have h9 : iblk m c 9 t (ix2 0 q) = b := (blk9_arg m c t q).trans hb
  refine (logits_read _ _ _ _ a q).trans ?_
  refine Eq.trans ?_ (split_logit (fun k => normedAt m c (ix2 p k)) w b (fin_normed m c hf p) hwf)
  refine congrArg₂ (fun u v : EReal => u + v) (congrArg₂ (fun u v : EReal => u + v) (Finset.sum_congr rfl fun k _ => ?_)
    (congrArg₂ (fun u v : EReal => u + v) (Finset.sum_congr rfl fun k _ => ?_) (Finset.sum_congr rfl fun k _ => ?_))) h9
  · exact congrArg₂ (fun u v : EReal => u * v) (hx k) (h8 k)
  · exact congrArg₂ (fun u v : EReal => u * (v - v)) (hx k) (h8 k)
  · exact congrArg₂ (fun u v : EReal => (u - u) * v) (hx k) (h8 k)

/-- One weight at grid point `t`. -/
theorem at12 (q : Fin 128) : kernelRow (logits (rows m c t) (iblk m c 7 t) (iblk m c 8 t) (iblk m c 9 t) a) q = routedAt m c (ix2 q p) := by
  unfold routedAt
  rw [routed_apply]
  refine row_eq _ _ _ (fun r => ?_) (fun r => ?_) (fun r h => ?_) (fun r h => ?_) q
  · unfold groupsAt
    rw [groupLogits_apply]
    exact fin_logit _ _ _ (fin_normed m c hf p) (fun k => hf.grp k r) (hf.grpBias r)
  · unfold expertsAt
    rw [expertLogits_apply]
    exact fin_logit _ _ _ (fin_normed m c hf p) (fun k => hf.exp k r) (hf.expBias r)
  · unfold groupsAt
    rw [groupLogits_apply]
    refine logit_at m c hf t a p hp _ _ _ (fun k => ?_) ?_ (fun k => hf.grp k r)
    · rw [wr_entry]; exact wide_grp _ _ k r h
    · rw [br_entry]
      refine Eq.trans ?_ (wideBias_grp (m ((c.tc : Thread nD τ).loc main_arg9)) (m ((c.tc : Thread nD τ).loc main_arg11)) r h)
      generalize wideBias _ _ = Z
      pointwise
  · unfold expertsAt
    rw [expertLogits_apply]
    refine logit_at m c hf t a p hp _ _ _ (fun k => ?_) ?_ (fun k => hf.exp k r)
    · rw [wr_entry]; exact wide_exp _ _ k r h
    · rw [br_entry]
      refine Eq.trans ?_ (wideBias_exp (m ((c.tc : Thread nD τ).loc main_arg9)) (m ((c.tc : Thread nD τ).loc main_arg11)) r h)
      generalize wideBias _ _ = Z
      pointwise

omit hp in
/-- The third result's array is the plain program's weights. -/
theorem array12 : (dats m 0 c).arrAt 12 (cfgs 0).N = routedAt m c := by
  refine (dats m 0 c).arrAt_eq_of_covers 12 _ (by decide +kernel) fun t hfl y => ?_
  blk_simp
  rw [after0_12]
  frame_out
  have h := (idx_rows t).2.2.2.2.2.2
  have hy : y = ix2 (⟨(y 0).val, (y 0).isLt⟩ : Fin 128) (⟨(y 1).val, (y 1).isLt⟩ : Fin 512) := by
    funext ax; fin_cases ax <;> rfl
  have hb : (y 1).val < 512 := (y 1).isLt
  have hN : t.val < cfg0.grid.N := t.isLt
  have hN' : cfg0.grid.N = 64 := N_0
  rw [hy]
  refine (body_read _ _ _ _ _ _ _ _ _ _ _ _).trans ?_
  refine (at12 m c hf t _ ⟨512 * t.val + (y 1).val, by omega⟩ rfl _).trans ?_
  refine congrArg (routedAt m c) (funext fun ax => Fin.ext ?_)
  fin_cases ax
  · show (y 0).val = win0_12.index t 0 * 128 + 1 * (y 0).val
    rw [h]; show (y 0).val = 0 * 128 + 1 * (y 0).val; omega
  · show 512 * t.val + (y 1).val = win0_12.index t 1 * 512 + 1 * (y 1).val
    rw [h]; show 512 * t.val + (y 1).val = t.val * 512 + 1 * (y 1).val; omega

end Cert.Kernel4Ideal.Route
-- ==== Proof.Route.Claims.lean ====
/- The claims about the routing weights of the joining call: its runs, and its result against the plain program's. -/
module

public import proofs.«01_k».proof.Defs
public import proofs.«01_k».proof.Proof.Route.Results
public import proofs.«01_k».proof.Proof.Gen.Kernel4.Frame
public import proofs.«01_k».proof.Proof.Gen.Pre_routes_finite
public import proofs.«01_k».proof.Proof.Route.Arrays
public import Idealize.ShloMosaic.Lib.Claim
public import Idealize.ShloMosaic.Lib.Quiescent

@[expose] public section

set_option maxRecDepth 16384

noncomputable section

namespace Cert.Kernel4Ideal.Route

open Idealize Idealize.ShloMosaic Idealize.ShloMosaic.TcCoe Idealize.SL.Sem
open Cert.Route (fin_of_word)

attribute [local instance] Cert.Kernel4.Gen.facts Cert.Kernel4Ideal.Gen.facts Cert.Reference4Ideal.Gen.facts Cert.Pre_routes_finite.Gen.facts

/-- The plain program terminates, keeps its arguments and leaves every counter at zero. -/
theorem frame_reference : quiescent_Reference4Ideal := fun m g _ =>
  (θ_run Cert.Reference4Ideal.defs _ _).mono (fun r h => ⟨fun c => (h c).2,
    sem_eq_zero_of_no_sems (by decide) r.2⟩) (Cert.Reference4Ideal.Value.run (F := Ideal) m g)

/-- The same, for the arguments the value claim is about. -/
theorem frame_reference_pre : quiescent_Reference4Ideal_pre_routes_finite := fun m g _ => frame_reference m g trivial

/-- The precondition says that the norm's and the routing's arguments hold no infinities. -/
theorem noInf (m : (ℓ : Loc Cert.Kernel4Ideal.nD Cert.Kernel4Ideal.τ Cert.Kernel4Ideal.sig) → Buf (Elt Ideal) ℓ) (h : Pre_Kernel4Ideal_routes_finite m)
    (c : Dev Cert.Kernel4Ideal.nD) : NoInf m c where
  gain q := fin_of_word _ (congrFun (h c).1 (ix2 0 q))
  grp k q := fin_of_word _ (congrFun (h c).2.1 (ix3 0 k q))
  grpBias q := fin_of_word _ (congrFun (h c).2.2.1 (ix2 0 q))
  exp k q := fin_of_word _ (congrFun (h c).2.2.2.1 (ix3 0 k q))
  expBias q := fin_of_word _ (congrFun (h c).2.2.2.2 (ix2 0 q))

/-- From memories that agree on the arguments, the plain program's weights are those of the call's arguments. -/
theorem routed_agree (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (e0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (e1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (e2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (e3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (e4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4))
    (e5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5))
    (e6 : m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6))
    (e7 : m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7))
    (e8 : m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8))
    (e9 : m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9))
    (e10 : m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10))
    (e11 : m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) :
    Cert.Reference4Ideal.Route.routedOf m' c = routedAt m c := by
  unfold Cert.Reference4Ideal.Route.routedOf Cert.Reference4Ideal.Route.groupsOf Cert.Reference4Ideal.Route.expertsOf
    Cert.Reference4Ideal.Route.normedOf routedAt groupsAt expertsAt normedAt joinedAt
  rw [e0, e1, e2, e3, e4, e5, e6, e7, e8, e9, e10, e11]

set_option maxHeartbeats 2000000 in
/-- From memories agreeing on the arguments, with no infinities among the norm's and the routing's, both programs run
    and end with the same weight for every expert and every token. -/
theorem same_result : algebraic_Kernel4Ideal_Reference4Ideal_pre_routes_finite := by
  intro m g m' g' hpre hagree
  refine ⟨fun c => (Cert.Kernel4Ideal.Gen.dats m 0 c).arrAt 12 (cfgs 0).N, ?_, ?_⟩
  · run_from Cert.Kernel4Ideal.Gen.run_main m g
  · refine (θ_run Cert.Reference4Ideal.defs _ _).mono (fun r h c => ?_)
      (θ_run_and (Cert.Reference4Ideal.Route.results m' g') (Cert.Reference4Ideal.Value.run (F := Ideal) m' g'))
    have E := hagree c
    have j := routed_agree m m' c E.1 E.2.1 E.2.2.1 E.2.2.2.1 E.2.2.2.2.1 E.2.2.2.2.2.1 E.2.2.2.2.2.2.1 E.2.2.2.2.2.2.2.1 E.2.2.2.2.2.2.2.2.1 E.2.2.2.2.2.2.2.2.2.1 E.2.2.2.2.2.2.2.2.2.2.1 E.2.2.2.2.2.2.2.2.2.2.2
    exact ⟨(h.1 c).trans (j.trans (array12 m c (noInf m hpre c)).symm), (h.2 c).2⟩

end Cert.Kernel4Ideal.Route
-- ==== Proof.lean ====
/- The claims of this directory, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_routes_finite
public import proofs.«01_k».proof.Proof.MoeI.Claims
public import proofs.«01_k».proof.Proof.Proj.Claims
public import proofs.«01_k».proof.Proof.Join.Claims
public import proofs.«01_k».proof.Proof.Route.Claims
public import Idealize.ShloMosaic.Adequacy
public import Idealize.ShloMosaic.Init

@[expose] public section

noncomputable section

-- The claims about each program also say that every semaphore counter ends at zero.

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_routes_finite.Gen.facts,
  Cert.KernelIdeal.Moe.frame_kernel, Cert.KernelIdeal.Moe.frame_ideal, Cert.KernelIdeal.Moe.frame_reference,
  fun m g _ => Cert.Kernel2.Gen.frame m g, fun m g _ => Cert.Kernel2Ideal.Gen.frame m g, Cert.Kernel2Ideal.Proj.frame_reference,
  fun m g _ => Cert.Kernel3.Gen.frame m g, fun m g _ => Cert.Kernel3Ideal.Gen.frame m g, Cert.Kernel3Ideal.Join.frame_reference,
  fun m g _ => Cert.Kernel4.Gen.frame m g, fun m g _ => Cert.Kernel4Ideal.Gen.frame m g, fun m g _ => Cert.Kernel4Ideal.Gen.frame m g,
  Cert.Kernel4Ideal.Route.frame_reference, Cert.Kernel4Ideal.Route.frame_reference_pre,
  trivial, Cert.KernelIdeal.Moe.same_result, trivial, Cert.Kernel2Ideal.Proj.same_results,
  trivial, Cert.Kernel3Ideal.Join.same_results,
  trivial, Cert.Kernel4Ideal.Route.same_result⟩

end Cert.Proof

end
